-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Dense (m : (ℓ : Loc Cert.Dense.nD Cert.Dense.τ Cert.Dense.sig) → Buf (Elt Bits) ℓ) : Prop :=
  True

def Pre_DenseReference (m : (ℓ : Loc Cert.DenseReference.nD Cert.DenseReference.τ Cert.DenseReference.sig) → Buf (Elt Bits) ℓ) : Prop :=
  True

def Pre_Mask (m : (ℓ : Loc Cert.Mask.nD Cert.Mask.τ Cert.Mask.sig) → Buf (Elt Bits) ℓ) : Prop :=
  True

def Pre_MaskIdeal (m : (ℓ : Loc Cert.MaskIdeal.nD Cert.MaskIdeal.τ Cert.MaskIdeal.sig) → Buf (Elt Ideal) ℓ) : Prop :=
  True

def Pre_MaskReferenceIdeal (m : (ℓ : Loc Cert.MaskReferenceIdeal.nD Cert.MaskReferenceIdeal.τ Cert.MaskReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0))
      ∧ r.2.sem = fun _ => 0)

def quiescent_DenseReference [hDenseReference : Cert.DenseReference.Facts] : Prop :=
  ∀ (m : (ℓ : Loc Cert.DenseReference.nD Cert.DenseReference.τ Cert.DenseReference.sig) → Buf (Elt Bits) ℓ) (g : Dev Cert.DenseReference.nD → PrngReg), Pre_DenseReference m →
    θ_run (Cert.DenseReference.defs (F := Bits)) (onTc (τ := Cert.DenseReference.τ) (Cert.DenseReference.main (F := Bits))) ⟨m, fun _ => 0, g⟩ (fun r => (∀ c : Dev Cert.DenseReference.nD,
      r.2.mem ((c.tc : Thread Cert.DenseReference.nD Cert.DenseReference.τ).loc Cert.DenseReference.main_arg0) = m ((c.tc : Thread Cert.DenseReference.nD Cert.DenseReference.τ).loc Cert.DenseReference.main_arg0))
      ∧ r.2.sem = fun _ => 0)

def quiescent_Mask [hMask : Cert.Mask.Facts] : Prop :=
  ∀ (m : (ℓ : Loc Cert.Mask.nD Cert.Mask.τ Cert.Mask.sig) → Buf (Elt Bits) ℓ) (g : Dev Cert.Mask.nD → PrngReg), Pre_Mask m →
    θ_run (Cert.Mask.defs (F := Bits)) (onTc (τ := Cert.Mask.τ) (Cert.Mask.main (F := Bits))) ⟨m, fun _ => 0, g⟩ (fun r => (∀ c : Dev Cert.Mask.nD,
      r.2.mem ((c.tc : Thread Cert.Mask.nD Cert.Mask.τ).loc Cert.Mask.main_arg0) = m ((c.tc : Thread Cert.Mask.nD Cert.Mask.τ).loc Cert.Mask.main_arg0)
      ∧ r.2.mem ((c.tc : Thread Cert.Mask.nD Cert.Mask.τ).loc Cert.Mask.main_arg1) = m ((c.tc : Thread Cert.Mask.nD Cert.Mask.τ).loc Cert.Mask.main_arg1))
      ∧ r.2.sem = fun _ => 0)

def quiescent_MaskIdeal [hMaskIdeal : Cert.MaskIdeal.Facts] : Prop :=
  ∀ (m : (ℓ : Loc Cert.MaskIdeal.nD Cert.MaskIdeal.τ Cert.MaskIdeal.sig) → Buf (Elt Ideal) ℓ) (g : Dev Cert.MaskIdeal.nD → PrngReg), Pre_MaskIdeal m →
    θ_run (Cert.MaskIdeal.defs (F := Ideal)) (onTc (τ := Cert.MaskIdeal.τ) (Cert.MaskIdeal.main (F := Ideal))) ⟨m, fun _ => 0, g⟩ (fun r => (∀ c : Dev Cert.MaskIdeal.nD,
      r.2.mem ((c.tc : Thread Cert.MaskIdeal.nD Cert.MaskIdeal.τ).loc Cert.MaskIdeal.main_arg0) = m ((c.tc : Thread Cert.MaskIdeal.nD Cert.MaskIdeal.τ).loc Cert.MaskIdeal.main_arg0)
      ∧ r.2.mem ((c.tc : Thread Cert.MaskIdeal.nD Cert.MaskIdeal.τ).loc Cert.MaskIdeal.main_arg1) = m ((c.tc : Thread Cert.MaskIdeal.nD Cert.MaskIdeal.τ).loc Cert.MaskIdeal.main_arg1))
      ∧ r.2.sem = fun _ => 0)

def quiescent_MaskReferenceIdeal [hMaskReferenceIdeal : Cert.MaskReferenceIdeal.Facts] : Prop :=
  ∀ (m : (ℓ : Loc Cert.MaskReferenceIdeal.nD Cert.MaskReferenceIdeal.τ Cert.MaskReferenceIdeal.sig) → Buf (Elt Ideal) ℓ) (g : Dev Cert.MaskReferenceIdeal.nD → PrngReg), Pre_MaskReferenceIdeal m →
    θ_run (Cert.MaskReferenceIdeal.defs (F := Ideal)) (onTc (τ := Cert.MaskReferenceIdeal.τ) (Cert.MaskReferenceIdeal.main (F := Ideal))) ⟨m, fun _ => 0, g⟩ (fun r => (∀ c : Dev Cert.MaskReferenceIdeal.nD,
      r.2.mem ((c.tc : Thread Cert.MaskReferenceIdeal.nD Cert.MaskReferenceIdeal.τ).loc Cert.MaskReferenceIdeal.main_arg0) = m ((c.tc : Thread Cert.MaskReferenceIdeal.nD Cert.MaskReferenceIdeal.τ).loc Cert.MaskReferenceIdeal.main_arg0)
      ∧ r.2.mem ((c.tc : Thread Cert.MaskReferenceIdeal.nD Cert.MaskReferenceIdeal.τ).loc Cert.MaskReferenceIdeal.main_arg1) = m ((c.tc : Thread Cert.MaskReferenceIdeal.nD Cert.MaskReferenceIdeal.τ).loc Cert.MaskReferenceIdeal.main_arg1))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0))

def bitexact_Dense_DenseReference [hDense : Cert.Dense.Facts] [hDenseReference : Cert.DenseReference.Facts] : Prop :=
  ∀ (m : (ℓ : Loc Cert.Dense.nD Cert.Dense.τ Cert.Dense.sig) → Buf (Elt Bits) ℓ) (g : Dev Cert.Dense.nD → PrngReg)
    (m' : (ℓ : Loc Cert.DenseReference.nD Cert.DenseReference.τ Cert.DenseReference.sig) → Buf (Elt Bits) ℓ) (g' : Dev Cert.DenseReference.nD → PrngReg), Pre_Dense m →
    (∀ c : Dev Cert.Dense.nD,
      m' ((c.tc : Thread Cert.DenseReference.nD Cert.DenseReference.τ).loc Cert.DenseReference.main_arg0) = m ((c.tc : Thread Cert.Dense.nD Cert.Dense.τ).loc Cert.Dense.main_arg0)) →
    ∃ (v0 : (c : Dev Cert.Dense.nD) → Buf (Elt Bits) ((c.tc : Thread Cert.Dense.nD Cert.Dense.τ).loc Cert.Dense.main_v1)),
      θ_run (Cert.Dense.defs (F := Bits)) (onTc (τ := Cert.Dense.τ) (Cert.Dense.main (F := Bits))) ⟨m, fun _ => 0, g⟩ (fun r => ∀ c : Dev Cert.Dense.nD,
          r.2.mem ((c.tc : Thread Cert.Dense.nD Cert.Dense.τ).loc Cert.Dense.main_v1) = v0 c
          ∧ r.2.mem ((c.tc : Thread Cert.Dense.nD Cert.Dense.τ).loc Cert.Dense.main_arg0) = m ((c.tc : Thread Cert.Dense.nD Cert.Dense.τ).loc Cert.Dense.main_arg0))
      ∧ θ_run (Cert.DenseReference.defs (F := Bits)) (onTc (τ := Cert.DenseReference.τ) (Cert.DenseReference.main (F := Bits))) ⟨m', fun _ => 0, g'⟩ (fun r => ∀ c : Dev Cert.DenseReference.nD,
          r.2.mem ((c.tc : Thread Cert.DenseReference.nD Cert.DenseReference.τ).loc Cert.DenseReference.main_v14) = v0 c
          ∧ r.2.mem ((c.tc : Thread Cert.DenseReference.nD Cert.DenseReference.τ).loc Cert.DenseReference.main_arg0) = m' ((c.tc : Thread Cert.DenseReference.nD Cert.DenseReference.τ).loc Cert.DenseReference.main_arg0))

def preserves_Mask_MaskIdeal : Prop :=
  True

def algebraic_MaskIdeal_MaskReferenceIdeal [hMaskIdeal : Cert.MaskIdeal.Facts] [hMaskReferenceIdeal : Cert.MaskReferenceIdeal.Facts] : Prop :=
  ∀ (m : (ℓ : Loc Cert.MaskIdeal.nD Cert.MaskIdeal.τ Cert.MaskIdeal.sig) → Buf (Elt Ideal) ℓ) (g : Dev Cert.MaskIdeal.nD → PrngReg)
    (m' : (ℓ : Loc Cert.MaskReferenceIdeal.nD Cert.MaskReferenceIdeal.τ Cert.MaskReferenceIdeal.sig) → Buf (Elt Ideal) ℓ) (g' : Dev Cert.MaskReferenceIdeal.nD → PrngReg), Pre_MaskIdeal m →
    (∀ c : Dev Cert.MaskIdeal.nD,
      m' ((c.tc : Thread Cert.MaskReferenceIdeal.nD Cert.MaskReferenceIdeal.τ).loc Cert.MaskReferenceIdeal.main_arg0) = m ((c.tc : Thread Cert.MaskIdeal.nD Cert.MaskIdeal.τ).loc Cert.MaskIdeal.main_arg0)
      ∧ m' ((c.tc : Thread Cert.MaskReferenceIdeal.nD Cert.MaskReferenceIdeal.τ).loc Cert.MaskReferenceIdeal.main_arg1) = m ((c.tc : Thread Cert.MaskIdeal.nD Cert.MaskIdeal.τ).loc Cert.MaskIdeal.main_arg1)) →
    ∃ (v0 : (c : Dev Cert.MaskIdeal.nD) → Buf (Elt Ideal) ((c.tc : Thread Cert.MaskIdeal.nD Cert.MaskIdeal.τ).loc Cert.MaskIdeal.main_v1)),
      θ_run (Cert.MaskIdeal.defs (F := Ideal)) (onTc (τ := Cert.MaskIdeal.τ) (Cert.MaskIdeal.main (F := Ideal))) ⟨m, fun _ => 0, g⟩ (fun r => ∀ c : Dev Cert.MaskIdeal.nD,
          r.2.mem ((c.tc : Thread Cert.MaskIdeal.nD Cert.MaskIdeal.τ).loc Cert.MaskIdeal.main_v1) = v0 c
          ∧ r.2.mem ((c.tc : Thread Cert.MaskIdeal.nD Cert.MaskIdeal.τ).loc Cert.MaskIdeal.main_arg0) = m ((c.tc : Thread Cert.MaskIdeal.nD Cert.MaskIdeal.τ).loc Cert.MaskIdeal.main_arg0)
          ∧ r.2.mem ((c.tc : Thread Cert.MaskIdeal.nD Cert.MaskIdeal.τ).loc Cert.MaskIdeal.main_arg1) = m ((c.tc : Thread Cert.MaskIdeal.nD Cert.MaskIdeal.τ).loc Cert.MaskIdeal.main_arg1))
      ∧ θ_run (Cert.MaskReferenceIdeal.defs (F := Ideal)) (onTc (τ := Cert.MaskReferenceIdeal.τ) (Cert.MaskReferenceIdeal.main (F := Ideal))) ⟨m', fun _ => 0, g'⟩ (fun r => ∀ c : Dev Cert.MaskReferenceIdeal.nD,
          r.2.mem ((c.tc : Thread Cert.MaskReferenceIdeal.nD Cert.MaskReferenceIdeal.τ).loc Cert.MaskReferenceIdeal.main_v11) = v0 c
          ∧ r.2.mem ((c.tc : Thread Cert.MaskReferenceIdeal.nD Cert.MaskReferenceIdeal.τ).loc Cert.MaskReferenceIdeal.main_arg0) = m' ((c.tc : Thread Cert.MaskReferenceIdeal.nD Cert.MaskReferenceIdeal.τ).loc Cert.MaskReferenceIdeal.main_arg0)
          ∧ r.2.mem ((c.tc : Thread Cert.MaskReferenceIdeal.nD Cert.MaskReferenceIdeal.τ).loc Cert.MaskReferenceIdeal.main_arg1) = m' ((c.tc : Thread Cert.MaskReferenceIdeal.nD Cert.MaskReferenceIdeal.τ).loc Cert.MaskReferenceIdeal.main_arg1))

def Claim : Prop :=
  ∃ (hKernel : Cert.Kernel.Facts) (hReference : Cert.Reference.Facts) (hDense : Cert.Dense.Facts) (hDenseReference : Cert.DenseReference.Facts) (hMask : Cert.Mask.Facts) (hMaskIdeal : Cert.MaskIdeal.Facts) (hMaskReferenceIdeal : Cert.MaskReferenceIdeal.Facts),
    quiescent_Kernel (hKernel := hKernel)
    ∧ quiescent_Reference (hReference := hReference)
    ∧ quiescent_Dense (hDense := hDense)
    ∧ quiescent_DenseReference (hDenseReference := hDenseReference)
    ∧ quiescent_Mask (hMask := hMask)
    ∧ quiescent_MaskIdeal (hMaskIdeal := hMaskIdeal)
    ∧ quiescent_MaskReferenceIdeal (hMaskReferenceIdeal := hMaskReferenceIdeal)
    ∧ bitexact_Kernel_Reference (hKernel := hKernel) (hReference := hReference)
    ∧ bitexact_Dense_DenseReference (hDense := hDense) (hDenseReference := hDenseReference)
    ∧ preserves_Mask_MaskIdeal
    ∧ algebraic_MaskIdeal_MaskReferenceIdeal (hMaskIdeal := hMaskIdeal) (hMaskReferenceIdeal := hMaskReferenceIdeal)
-- ==== Kernel.lean ====
abbrev S32x768x32x32 : Shape := ⟨4, ![32, 768, 32, 32]⟩
abbrev S32x768x1024 : Shape := ⟨3, ![32, 768, 1024]⟩
abbrev S12x1x1024 : Shape := ⟨3, ![12, 1, 1024]⟩
abbrev S768x128 : Shape := ⟨2, ![768, 128]⟩
abbrev S12288 : Shape := ⟨1, ![12288]⟩
abbrev S128 : Shape := ⟨1, ![128]⟩
abbrev S4096 : Shape := ⟨1, ![4096]⟩
abbrev S16 : Shape := ⟨1, ![16]⟩
abbrev S_ : Shape := ⟨0, ![]⟩
abbrev S1x768x128 : Shape := ⟨3, ![1, 768, 128]⟩
abbrev S1x16 : Shape := ⟨2, ![1, 16]⟩
abbrev S1x1x128 : Shape := ⟨3, ![1, 1, 128]⟩

abbrev nBuf : Table → Nat
  | .hbm => 3
  | .local .scVector .vmem => 4
  | _ => 0

abbrev bufTy : (tb : Table) → Fin (nBuf tb) → BufTy
  | .hbm, ⟨0, _⟩ => ⟨S32x768x32x32, .f32⟩
  | .hbm, ⟨1, _⟩ => ⟨S32x768x1024, .f32⟩
  | .hbm, ⟨2, _⟩ => ⟨S12x1x1024, .f32⟩
  | .local .scVector .vmem, ⟨0, _⟩ => ⟨S768x128, .f32⟩
  | .local .scVector .vmem, ⟨1, _⟩ => ⟨S12288, .i32⟩
  | .local .scVector .vmem, ⟨2, _⟩ => ⟨S128, .f32⟩
  | .local .scVector .vmem, ⟨3, _⟩ => ⟨S4096, .i32⟩
  | _, _ => ⟨S32x768x32x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_0 : BitVec 32 := 0#32
  let c256_i32 : BitVec 32 := 256#32
  let v5 : BitVec 32 := Scalar.addi c0_i32_0 c256_i32
  let c1_i32_1 : BitVec 32 := 1#32
  ⟨c0_i32_0, v5, c1_i32_1⟩
def k0_off1 (k0_t1 : Fin k0_t1_loop.trips) : Fin 1 → Nat :=
  let c0_i32_8 : BitVec 32 := 0#32
  let c0_i32_0 : BitVec 32 := 0#32
  let c1_i32_1 : BitVec 32 := 1#32
  let arg8 : BitVec 32 := Scf.iv c0_i32_0 c1_i32_1 k0_t1
  let c1_i32_7 : BitVec 32 := 1#32
  let v8 : BitVec 32 := Scalar.muli arg8 c1_i32_7
  let v9 : BitVec 32 := Scalar.addi c0_i32_8 v8
  let c16_i32 : BitVec 32 := 16#32
  let v10 : BitVec 32 := Scalar.muli v9 c16_i32
  let v11 : Index := Scalar.indexCast v10
  ![v11.toNat]
@[reducible] def k0_t2_loop : Scf.Loop 32 :=
  let c0_i32_4 : BitVec 32 := 0#32
  let c3_i32 : BitVec 32 := 3#32
  let v6 : BitVec 32 := Scalar.addi c0_i32_4 c3_i32
  let c1_i32_5 : BitVec 32 := 1#32
  ⟨c0_i32_4, v6, c1_i32_5⟩
def k0_off2 (i : grid0.Coords) (k0_t2 : Fin k0_t2_loop.trips) : Fin 3 → Nat :=
  let c20_i32 : BitVec 32 := 20#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_7 : BitVec 32 := 3#32
  let v8 : BitVec 32 := Scalar.muli v1 c3_i32_7
  let c0_i32_4 : BitVec 32 := 0#32
  let c1_i32_5 : BitVec 32 := 1#32
  let arg8 : BitVec 32 := Scf.iv c0_i32_4 c1_i32_5 k0_t2
  let v9 : BitVec 32 := Scalar.addi v8 arg8
  let c3_i32_8 : BitVec 32 := 3#32
  let v10 : BitVec 32 := Scalar.shrsi v9 c3_i32_8
  let v13 : BitVec 32 := Scalar.addi c20_i32 v10
  let c0_i32_15_r0 : BitVec 32 := 0#32
  let c7_i32 : BitVec 32 := 7#32
  let v11 : BitVec 32 := Scalar.andi v9 c7_i32
  let c128_i32 : BitVec 32 := 128#32
  let v12 : BitVec 32 := Scalar.muli v11 c128_i32
  ![v13.toNat, 0, v12.toNat]
@[reducible] def k0_t3_loop : Scf.Loop 32 :=
  let c0_i32_10 : BitVec 32 := 0#32
  let c8_i32 : BitVec 32 := 8#32
  let v14 : BitVec 32 := Scalar.addi c0_i32_10 c8_i32
  let c1_i32_11 : BitVec 32 := 1#32
  ⟨c0_i32_10, v14, c1_i32_11⟩
@[reducible] def k0_t4_loop : Scf.Loop 32 :=
  let c0_i32_15 : BitVec 32 := 0#32
  let c768_i32 : BitVec 32 := 768#32
  let v17 : BitVec 32 := Scalar.addi c0_i32_15 c768_i32
  let c1_i32_16 : BitVec 32 := 1#32
  ⟨c0_i32_15, v17, c1_i32_16⟩
def k0_off3 (k0_t3 : Fin k0_t3_loop.trips) (k0_t4 : Fin k0_t4_loop.trips) : Fin 2 → Nat :=
  let c0_i32_401 : BitVec 32 := 0#32
  let c0_i32_15 : BitVec 32 := 0#32
  let c1_i32_16 : BitVec 32 := 1#32
  let arg12 : BitVec 32 := Scf.iv c0_i32_15 c1_i32_16 k0_t4
  let c1_i32_400 : BitVec 32 := 1#32
  let v1623 : BitVec 32 := Scalar.muli arg12 c1_i32_400
  let v1624 : BitVec 32 := Scalar.addi c0_i32_401 v1623
  let v1625 : Index := Scalar.indexCast v1624
  let c0_i32_10 : BitVec 32 := 0#32
  let c1_i32_11 : BitVec 32 := 1#32
  let arg10 : BitVec 32 := Scf.iv c0_i32_10 c1_i32_11 k0_t3
  let c16_i32 : BitVec 32 := 16#32
  let v16 : BitVec 32 := Scalar.muli arg10 c16_i32
  let v1626 : Index := Scalar.indexCast v16
  ![v1625.toNat, v1626.toNat]
def k0_off4 (k0_t4 : Fin k0_t4_loop.trips) : Fin 1 → Nat :=
  let c0_i32_401 : BitVec 32 := 0#32
  let c0_i32_15 : BitVec 32 := 0#32
  let c1_i32_16 : BitVec 32 := 1#32
  let arg12 : BitVec 32 := Scf.iv c0_i32_15 c1_i32_16 k0_t4
  let c1_i32_400 : BitVec 32 := 1#32
  let v1623 : BitVec 32 := Scalar.muli arg12 c1_i32_400
  let v1624 : BitVec 32 := Scalar.addi c0_i32_401 v1623
  let c16_i32_404 : BitVec 32 := 16#32
  let v1634 : BitVec 32 := Scalar.muli v1624 c16_i32_404
  let v1635 : Index := Scalar.indexCast v1634
  ![v1635.toNat]

def k0_chk1 (v1643 : IVec S16 32) : Prop :=
  (∀ a x, ((![v1643] : Fin 1 → IVec S16 32) a x).toNat < S4096.size a)
theorem k0_idx1_inb : ∀ (v1643 : IVec S16 32) (k0_hw1 : k0_chk1 v1643), ∀ a x, ((![v1643] : Fin 1 → IVec S16 32) a x).toNat < S4096.size a := fun v1643 k0_hw1 => k0_hw1

def k0_chk2 (v664 : IVec S16 32) : Prop :=
  (∀ a x, ((![v664] : Fin 1 → IVec S16 32) a x).toNat < S4096.size a)
theorem k0_idx2_inb : ∀ (v664 : IVec S16 32) (k0_hw2 : k0_chk2 v664), ∀ a x, ((![v664] : Fin 1 → IVec S16 32) a x).toNat < S4096.size a := fun v664 k0_hw2 => k0_hw2

def k0_chk3 (v674 : IVec S16 32) : Prop :=
  (∀ a x, ((![v674] : Fin 1 → IVec S16 32) a x).toNat < S4096.size a)
theorem k0_idx3_inb : ∀ (v674 : IVec S16 32) (k0_hw3 : k0_chk3 v674), ∀ a x, ((![v674] : Fin 1 → IVec S16 32) a x).toNat < S4096.size a := fun v674 k0_hw3 => k0_hw3

def k0_chk4 (v684 : IVec S16 32) : Prop :=
  (∀ a x, ((![v684] : Fin 1 → IVec S16 32) a x).toNat < S4096.size a)
theorem k0_idx4_inb : ∀ (v684 : IVec S16 32) (k0_hw4 : k0_chk4 v684), ∀ a x, ((![v684] : Fin 1 → IVec S16 32) a x).toNat < S4096.size a := fun v684 k0_hw4 => k0_hw4

def k0_chk5 (v694 : IVec S16 32) : Prop :=
  (∀ a x, ((![v694] : Fin 1 → IVec S16 32) a x).toNat < S4096.size a)
theorem k0_idx5_inb : ∀ (v694 : IVec S16 32) (k0_hw5 : k0_chk5 v694), ∀ a x, ((![v694] : Fin 1 → IVec S16 32) a x).toNat < S4096.size a := fun v694 k0_hw5 => k0_hw5

def k0_chk6 (v704 : IVec S16 32) : Prop :=
  (∀ a x, ((![v704] : Fin 1 → IVec S16 32) a x).toNat < S4096.size a)
theorem k0_idx6_inb : ∀ (v704 : IVec S16 32) (k0_hw6 : k0_chk6 v704), ∀ a x, ((![v704] : Fin 1 → IVec S16 32) a x).toNat < S4096.size a := fun v704 k0_hw6 => k0_hw6

def k0_chk7 (v714 : IVec S16 32) : Prop :=
  (∀ a x, ((![v714] : Fin 1 → IVec S16 32) a x).toNat < S4096.size a)
theorem k0_idx7_inb : ∀ (v714 : IVec S16 32) (k0_hw7 : k0_chk7 v714), ∀ a x, ((![v714] : Fin 1 → IVec S16 32) a x).toNat < S4096.size a := fun v714 k0_hw7 => k0_hw7

def k0_chk8 (v724 : IVec S16 32) : Prop :=
  (∀ a x, ((![v724] : Fin 1 → IVec S16 32) a x).toNat < S4096.size a)
theorem k0_idx8_inb : ∀ (v724 : IVec S16 32) (k0_hw8 : k0_chk8 v724), ∀ a x, ((![v724] : Fin 1 → IVec S16 32) a x).toNat < S4096.size a := fun v724 k0_hw8 => k0_hw8

def k0_chk9 (v734 : IVec S16 32) : Prop :=
  (∀ a x, ((![v734] : Fin 1 → IVec S16 32) a x).toNat < S4096.size a)
theorem k0_idx9_inb : ∀ (v734 : IVec S16 32) (k0_hw9 : k0_chk9 v734), ∀ a x, ((![v734] : Fin 1 → IVec S16 32) a x).toNat < S4096.size a := fun v734 k0_hw9 => k0_hw9

def k0_chk10 (v744 : IVec S16 32) : Prop :=
  (∀ a x, ((![v744] : Fin 1 → IVec S16 32) a x).toNat < S4096.size a)
theorem k0_idx10_inb : ∀ (v744 : IVec S16 32) (k0_hw10 : k0_chk10 v744), ∀ a x, ((![v744] : Fin 1 → IVec S16 32) a x).toNat < S4096.size a := fun v744 k0_hw10 => k0_hw10

def k0_chk11 (v754 : IVec S16 32) : Prop :=
  (∀ a x, ((![v754] : Fin 1 → IVec S16 32) a x).toNat < S4096.size a)
theorem k0_idx11_inb : ∀ (v754 : IVec S16 32) (k0_hw11 : k0_chk11 v754), ∀ a x, ((![v754] : Fin 1 → IVec S16 32) a x).toNat < S4096.size a := fun v754 k0_hw11 => k0_hw11

def k0_chk12 (v764 : IVec S16 32) : Prop :=
  (∀ a x, ((![v764] : Fin 1 → IVec S16 32) a x).toNat < S4096.size a)
theorem k0_idx12_inb : ∀ (v764 : IVec S16 32) (k0_hw12 : k0_chk12 v764), ∀ a x, ((![v764] : Fin 1 → IVec S16 32) a x).toNat < S4096.size a := fun v764 k0_hw12 => k0_hw12

def k0_chk13 (v774 : IVec S16 32) : Prop :=
  (∀ a x, ((![v774] : Fin 1 → IVec S16 32) a x).toNat < S4096.size a)
theorem k0_idx13_inb : ∀ (v774 : IVec S16 32) (k0_hw13 : k0_chk13 v774), ∀ a x, ((![v774] : Fin 1 → IVec S16 32) a x).toNat < S4096.size a := fun v774 k0_hw13 => k0_hw13

def k0_chk14 (v784 : IVec S16 32) : Prop :=
  (∀ a x, ((![v784] : Fin 1 → IVec S16 32) a x).toNat < S4096.size a)
theorem k0_idx14_inb : ∀ (v784 : IVec S16 32) (k0_hw14 : k0_chk14 v784), ∀ a x, ((![v784] : Fin 1 → IVec S16 32) a x).toNat < S4096.size a := fun v784 k0_hw14 => k0_hw14

def k0_chk15 (v794 : IVec S16 32) : Prop :=
  (∀ a x, ((![v794] : Fin 1 → IVec S16 32) a x).toNat < S4096.size a)
theorem k0_idx15_inb : ∀ (v794 : IVec S16 32) (k0_hw15 : k0_chk15 v794), ∀ a x, ((![v794] : Fin 1 → IVec S16 32) a x).toNat < S4096.size a := fun v794 k0_hw15 => k0_hw15

def k0_chk16 (v804 : IVec S16 32) : Prop :=
  (∀ a x, ((![v804] : Fin 1 → IVec S16 32) a x).toNat < S4096.size a)
theorem k0_idx16_inb : ∀ (v804 : IVec S16 32) (k0_hw16 : k0_chk16 v804), ∀ a x, ((![v804] : Fin 1 → IVec S16 32) a x).toNat < S4096.size a := fun v804 k0_hw16 => k0_hw16

def k0_chk17 (v814 : IVec S16 32) : Prop :=
  (∀ a x, ((![v814] : Fin 1 → IVec S16 32) a x).toNat < S4096.size a)
theorem k0_idx17_inb : ∀ (v814 : IVec S16 32) (k0_hw17 : k0_chk17 v814), ∀ a x, ((![v814] : Fin 1 → IVec S16 32) a x).toNat < S4096.size a := fun v814 k0_hw17 => k0_hw17
@[reducible] def k0_t5_loop : Scf.Loop 32 :=
  let c0_i32_77 : BitVec 32 := 0#32
  let c256_i32_78 : BitVec 32 := 256#32
  let v827 : BitVec 32 := Scalar.addi c0_i32_77 c256_i32_78
  let c1_i32_79 : BitVec 32 := 1#32
  ⟨c0_i32_77, v827, c1_i32_79⟩
def k0_off5 (k0_t5 : Fin k0_t5_loop.trips) : Fin 1 → Nat :=
  let c0_i32_401 : BitVec 32 := 0#32
  let c0_i32_77 : BitVec 32 := 0#32
  let c1_i32_79 : BitVec 32 := 1#32
  let arg12 : BitVec 32 := Scf.iv c0_i32_77 c1_i32_79 k0_t5
  let c1_i32_400 : BitVec 32 := 1#32
  let v1623 : BitVec 32 := Scalar.muli arg12 c1_i32_400
  let v1624 : BitVec 32 := Scalar.addi c0_i32_401 v1623
  let c16_i32_402 : BitVec 32 := 16#32
  let v1625 : BitVec 32 := Scalar.muli v1624 c16_i32_402
  let v1626 : Index := Scalar.indexCast v1625
  ![v1626.toNat]
@[reducible] def k0_t6_loop : Scf.Loop 32 :=
  let c0_i32_83 : BitVec 32 := 0#32
  let c768_i32_84 : BitVec 32 := 768#32
  let v832 : BitVec 32 := Scalar.addi c0_i32_83 c768_i32_84
  let c1_i32_85 : BitVec 32 := 1#32
  ⟨c0_i32_83, v832, c1_i32_85⟩
def k0_off6 (k0_t6 : Fin k0_t6_loop.trips) : Fin 1 → Nat :=
  let c0_i32_401 : BitVec 32 := 0#32
  let c0_i32_83 : BitVec 32 := 0#32
  let c1_i32_85 : BitVec 32 := 1#32
  let arg12 : BitVec 32 := Scf.iv c0_i32_83 c1_i32_85 k0_t6
  let c1_i32_400 : BitVec 32 := 1#32
  let v1623 : BitVec 32 := Scalar.muli arg12 c1_i32_400
  let v1624 : BitVec 32 := Scalar.addi c0_i32_401 v1623
  let c16_i32_402 : BitVec 32 := 16#32
  let v1625 : BitVec 32 := Scalar.muli v1624 c16_i32_402
  let v1626 : Index := Scalar.indexCast v1625
  ![v1626.toNat]

def k0_chk18 (v1637 : IVec S16 32) : Prop :=
  (∀ a x, ((![v1637] : Fin 1 → IVec S16 32) a x).toNat < S4096.size a)
theorem k0_idx18_inb : ∀ (v1637 : IVec S16 32) (k0_hw18 : k0_chk18 v1637), ∀ a x, ((![v1637] : Fin 1 → IVec S16 32) a x).toNat < S4096.size a := fun v1637 k0_hw18 => k0_hw18

def k0_chk19 (v1446 : IVec S16 32) : Prop :=
  (∀ a x, ((![v1446] : Fin 1 → IVec S16 32) a x).toNat < S4096.size a)
theorem k0_idx19_inb : ∀ (v1446 : IVec S16 32) (k0_hw19 : k0_chk19 v1446), ∀ a x, ((![v1446] : Fin 1 → IVec S16 32) a x).toNat < S4096.size a := fun v1446 k0_hw19 => k0_hw19

def k0_chk20 (v1456 : IVec S16 32) : Prop :=
  (∀ a x, ((![v1456] : Fin 1 → IVec S16 32) a x).toNat < S4096.size a)
theorem k0_idx20_inb : ∀ (v1456 : IVec S16 32) (k0_hw20 : k0_chk20 v1456), ∀ a x, ((![v1456] : Fin 1 → IVec S16 32) a x).toNat < S4096.size a := fun v1456 k0_hw20 => k0_hw20

def k0_chk21 (v1466 : IVec S16 32) : Prop :=
  (∀ a x, ((![v1466] : Fin 1 → IVec S16 32) a x).toNat < S4096.size a)
theorem k0_idx21_inb : ∀ (v1466 : IVec S16 32) (k0_hw21 : k0_chk21 v1466), ∀ a x, ((![v1466] : Fin 1 → IVec S16 32) a x).toNat < S4096.size a := fun v1466 k0_hw21 => k0_hw21

def k0_chk22 (v1476 : IVec S16 32) : Prop :=
  (∀ a x, ((![v1476] : Fin 1 → IVec S16 32) a x).toNat < S4096.size a)
theorem k0_idx22_inb : ∀ (v1476 : IVec S16 32) (k0_hw22 : k0_chk22 v1476), ∀ a x, ((![v1476] : Fin 1 → IVec S16 32) a x).toNat < S4096.size a := fun v1476 k0_hw22 => k0_hw22

def k0_chk23 (v1486 : IVec S16 32) : Prop :=
  (∀ a x, ((![v1486] : Fin 1 → IVec S16 32) a x).toNat < S4096.size a)
theorem k0_idx23_inb : ∀ (v1486 : IVec S16 32) (k0_hw23 : k0_chk23 v1486), ∀ a x, ((![v1486] : Fin 1 → IVec S16 32) a x).toNat < S4096.size a := fun v1486 k0_hw23 => k0_hw23

def k0_chk24 (v1496 : IVec S16 32) : Prop :=
  (∀ a x, ((![v1496] : Fin 1 → IVec S16 32) a x).toNat < S4096.size a)
theorem k0_idx24_inb : ∀ (v1496 : IVec S16 32) (k0_hw24 : k0_chk24 v1496), ∀ a x, ((![v1496] : Fin 1 → IVec S16 32) a x).toNat < S4096.size a := fun v1496 k0_hw24 => k0_hw24

def k0_chk25 (v1506 : IVec S16 32) : Prop :=
  (∀ a x, ((![v1506] : Fin 1 → IVec S16 32) a x).toNat < S4096.size a)
theorem k0_idx25_inb : ∀ (v1506 : IVec S16 32) (k0_hw25 : k0_chk25 v1506), ∀ a x, ((![v1506] : Fin 1 → IVec S16 32) a x).toNat < S4096.size a := fun v1506 k0_hw25 => k0_hw25

def k0_chk26 (v1516 : IVec S16 32) : Prop :=
  (∀ a x, ((![v1516] : Fin 1 → IVec S16 32) a x).toNat < S4096.size a)
theorem k0_idx26_inb : ∀ (v1516 : IVec S16 32) (k0_hw26 : k0_chk26 v1516), ∀ a x, ((![v1516] : Fin 1 → IVec S16 32) a x).toNat < S4096.size a := fun v1516 k0_hw26 => k0_hw26

def k0_chk27 (v1526 : IVec S16 32) : Prop :=
  (∀ a x, ((![v1526] : Fin 1 → IVec S16 32) a x).toNat < S4096.size a)
theorem k0_idx27_inb : ∀ (v1526 : IVec S16 32) (k0_hw27 : k0_chk27 v1526), ∀ a x, ((![v1526] : Fin 1 → IVec S16 32) a x).toNat < S4096.size a := fun v1526 k0_hw27 => k0_hw27

def k0_chk28 (v1536 : IVec S16 32) : Prop :=
  (∀ a x, ((![v1536] : Fin 1 → IVec S16 32) a x).toNat < S4096.size a)
theorem k0_idx28_inb : ∀ (v1536 : IVec S16 32) (k0_hw28 : k0_chk28 v1536), ∀ a x, ((![v1536] : Fin 1 → IVec S16 32) a x).toNat < S4096.size a := fun v1536 k0_hw28 => k0_hw28

def k0_chk29 (v1546 : IVec S16 32) : Prop :=
  (∀ a x, ((![v1546] : Fin 1 → IVec S16 32) a x).toNat < S4096.size a)
theorem k0_idx29_inb : ∀ (v1546 : IVec S16 32) (k0_hw29 : k0_chk29 v1546), ∀ a x, ((![v1546] : Fin 1 → IVec S16 32) a x).toNat < S4096.size a := fun v1546 k0_hw29 => k0_hw29

def k0_chk30 (v1556 : IVec S16 32) : Prop :=
  (∀ a x, ((![v1556] : Fin 1 → IVec S16 32) a x).toNat < S4096.size a)
theorem k0_idx30_inb : ∀ (v1556 : IVec S16 32) (k0_hw30 : k0_chk30 v1556), ∀ a x, ((![v1556] : Fin 1 → IVec S16 32) a x).toNat < S4096.size a := fun v1556 k0_hw30 => k0_hw30

def k0_chk31 (v1566 : IVec S16 32) : Prop :=
  (∀ a x, ((![v1566] : Fin 1 → IVec S16 32) a x).toNat < S4096.size a)
theorem k0_idx31_inb : ∀ (v1566 : IVec S16 32) (k0_hw31 : k0_chk31 v1566), ∀ a x, ((![v1566] : Fin 1 → IVec S16 32) a x).toNat < S4096.size a := fun v1566 k0_hw31 => k0_hw31

def k0_chk32 (v1576 : IVec S16 32) : Prop :=
  (∀ a x, ((![v1576] : Fin 1 → IVec S16 32) a x).toNat < S4096.size a)
theorem k0_idx32_inb : ∀ (v1576 : IVec S16 32) (k0_hw32 : k0_chk32 v1576), ∀ a x, ((![v1576] : Fin 1 → IVec S16 32) a x).toNat < S4096.size a := fun v1576 k0_hw32 => k0_hw32

def k0_chk33 (v1586 : IVec S16 32) : Prop :=
  (∀ a x, ((![v1586] : Fin 1 → IVec S16 32) a x).toNat < S4096.size a)
theorem k0_idx33_inb : ∀ (v1586 : IVec S16 32) (k0_hw33 : k0_chk33 v1586), ∀ a x, ((![v1586] : Fin 1 → IVec S16 32) a x).toNat < S4096.size a := fun v1586 k0_hw33 => k0_hw33

def k0_chk34 (v1596 : IVec S16 32) : Prop :=
  (∀ a x, ((![v1596] : Fin 1 → IVec S16 32) a x).toNat < S4096.size a)
theorem k0_idx34_inb : ∀ (v1596 : IVec S16 32) (k0_hw34 : k0_chk34 v1596), ∀ a x, ((![v1596] : Fin 1 → IVec S16 32) a x).toNat < S4096.size a := fun v1596 k0_hw34 => k0_hw34
@[reducible] def k0_t7_loop : Scf.Loop 32 :=
  let c0_i32_393 : BitVec 32 := 0#32
  let c256_i32_394 : BitVec 32 := 256#32
  let v1609 : BitVec 32 := Scalar.addi c0_i32_393 c256_i32_394
  let c1_i32_395 : BitVec 32 := 1#32
  ⟨c0_i32_393, v1609, c1_i32_395⟩
def k0_off7 (k0_t7 : Fin k0_t7_loop.trips) : Fin 1 → Nat :=
  let c0_i32_401 : BitVec 32 := 0#32
  let c0_i32_393 : BitVec 32 := 0#32
  let c1_i32_395 : BitVec 32 := 1#32
  let arg12 : BitVec 32 := Scf.iv c0_i32_393 c1_i32_395 k0_t7
  let c1_i32_400 : BitVec 32 := 1#32
  let v1623 : BitVec 32 := Scalar.muli arg12 c1_i32_400
  let v1624 : BitVec 32 := Scalar.addi c0_i32_401 v1623
  let c16_i32_402 : BitVec 32 := 16#32
  let v1625 : BitVec 32 := Scalar.muli v1624 c16_i32_402
  let v1626 : Index := Scalar.indexCast v1625
  ![v1626.toNat]
def k0_off8 (k0_t3 : Fin k0_t3_loop.trips) : Fin 1 → Nat :=
  let c0_i32_10 : BitVec 32 := 0#32
  let c1_i32_11 : BitVec 32 := 1#32
  let arg10 : BitVec 32 := Scf.iv c0_i32_10 c1_i32_11 k0_t3
  let c16_i32 : BitVec 32 := 16#32
  let v16 : BitVec 32 := Scalar.muli arg10 c16_i32
  let v1621 : Index := Scalar.indexCast v16
  ![v1621.toNat]
def k0_off9 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_7 : BitVec 32 := 3#32
  let v8 : BitVec 32 := Scalar.muli v1 c3_i32_7
  let c0_i32_4 : BitVec 32 := 0#32
  let c1_i32_5 : BitVec 32 := 1#32
  let arg8 : BitVec 32 := Scf.iv c0_i32_4 c1_i32_5 k0_t2
  let v9 : BitVec 32 := Scalar.addi v8 arg8
  let c3_i32_8 : BitVec 32 := 3#32
  let v10 : BitVec 32 := Scalar.shrsi v9 c3_i32_8
  let c0_i32_13 : BitVec 32 := 0#32
  let c7_i32 : BitVec 32 := 7#32
  let v11 : BitVec 32 := Scalar.andi v9 c7_i32
  let c128_i32 : BitVec 32 := 128#32
  let v12 : BitVec 32 := Scalar.muli v11 c128_i32
  ![v10.toNat, 0, v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32x768x32x32 : Shape := ⟨4, ![32, 768, 32, 32]⟩
abbrev S32x32x32x768 : Shape := ⟨4, ![32, 32, 32, 768]⟩
abbrev S32x1024x768 : Shape := ⟨3, ![32, 1024, 768]⟩
abbrev S32x1024x384 : Shape := ⟨3, ![32, 1024, 384]⟩
abbrev S32x1024x1 : Shape := ⟨3, ![32, 1024, 1]⟩
abbrev S32x1024 : Shape := ⟨2, ![32, 1024]⟩
abbrev S12x1024 : Shape := ⟨2, ![12, 1024]⟩
abbrev S_ : Shape := ⟨0, ![]⟩
abbrev S12x1x1024 : Shape := ⟨3, ![12, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S32x32x32x768, .f32⟩
  | .hbm, ⟨2, _⟩ => ⟨S32x1024x768, .f32⟩
  | .hbm, ⟨3, _⟩ => ⟨S32x1024x384, .f32⟩
  | .hbm, ⟨4, _⟩ => ⟨S32x1024x384, .i32⟩
  | .hbm, ⟨5, _⟩ => ⟨S32x1024x1, .f32⟩
  | .hbm, ⟨6, _⟩ => ⟨S32x1024, .f32⟩
  | .hbm, ⟨7, _⟩ => ⟨S12x1024, .f32⟩
  | .hbm, ⟨8, _⟩ => ⟨S12x1024, .i32⟩
  | .hbm, ⟨9, _⟩ => ⟨S_, .i32⟩
  | .hbm, ⟨10, _⟩ => ⟨S12x1024, .i32⟩
  | .hbm, ⟨11, _⟩ => ⟨S12x1024, .i1⟩
  | .hbm, ⟨12, _⟩ => ⟨S_, .i32⟩
  | .hbm, ⟨13, _⟩ => ⟨S12x1024, .i32⟩
  | .hbm, ⟨14, _⟩ => ⟨S12x1024, .i32⟩
  | .hbm, ⟨15, _⟩ => ⟨S_, .i32⟩
  | .hbm, ⟨16, _⟩ => ⟨S12x1024, .i32⟩
  | .hbm, ⟨17, _⟩ => ⟨S12x1024, .i32⟩
  | .hbm, ⟨18, _⟩ => ⟨S12x1024, .i32⟩
  | .hbm, ⟨19, _⟩ => ⟨S12x1024, .f32⟩
  | .hbm, ⟨20, _⟩ => ⟨S12x1x1024, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [BitOps F]
-- ==== Dense.lean ====
abbrev S32x768x32x32 : Shape := ⟨4, ![32, 768, 32, 32]⟩
abbrev S32x768x1024 : Shape := ⟨3, ![32, 768, 1024]⟩
abbrev S20x1x1024 : Shape := ⟨3, ![20, 1, 1024]⟩
abbrev S1x768x512 : Shape := ⟨3, ![1, 768, 512]⟩
abbrev S1x1x512 : Shape := ⟨3, ![1, 1, 512]⟩
abbrev S768x512 : Shape := ⟨2, ![768, 512]⟩
abbrev S512 : Shape := ⟨1, ![512]⟩
abbrev S1x512 : Shape := ⟨2, ![1, 512]⟩

abbrev nBuf : Space → Nat
  | .hbm => 3
  | .vmem => 4
  | .smem => 0
  | _ => 0

abbrev bufTy : (tb : Table) → Fin (tcTables nBuf tb) → BufTy
  | .hbm, ⟨0, _⟩ => ⟨S32x768x32x32, .f32⟩
  | .hbm, ⟨1, _⟩ => ⟨S32x768x1024, .f32⟩
  | .hbm, ⟨2, _⟩ => ⟨S20x1x1024, .f32⟩
  | .local _ .vmem, ⟨0, _⟩ => ⟨S1x768x512, .f32⟩
  | .local _ .vmem, ⟨1, _⟩ => ⟨S1x768x512, .f32⟩
  | .local _ .vmem, ⟨2, _⟩ => ⟨S1x1x512, .f32⟩
  | .local _ .vmem, ⟨3, _⟩ => ⟨S1x1x512, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![20, 2], ![false, false]⟩

@[reducible] def k0_t1_loop : Scf.Loop 32 :=
  let c0_i32_3 : BitVec 32 := 0#32
  let c16_i32 : BitVec 32 := 16#32
  let v18 : BitVec 32 := Scalar.addi c0_i32_3 c16_i32
  let c1_i32 : BitVec 32 := 1#32
  ⟨c0_i32_3, v18, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DenseReference.lean ====
abbrev S32x768x32x32 : Shape := ⟨4, ![32, 768, 32, 32]⟩
abbrev S32x32x32x768 : Shape := ⟨4, ![32, 32, 32, 768]⟩
abbrev S32x1024x768 : Shape := ⟨3, ![32, 1024, 768]⟩
abbrev S32x1024x384 : Shape := ⟨3, ![32, 1024, 384]⟩
abbrev S32x1024x1 : Shape := ⟨3, ![32, 1024, 1]⟩
abbrev S32x1024 : Shape := ⟨2, ![32, 1024]⟩
abbrev S20x1024 : Shape := ⟨2, ![20, 1024]⟩
abbrev S_ : Shape := ⟨0, ![]⟩
abbrev S20x1x1024 : Shape := ⟨3, ![20, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S32x32x32x768, .f32⟩
  | .hbm, ⟨2, _⟩ => ⟨S32x1024x768, .f32⟩
  | .hbm, ⟨3, _⟩ => ⟨S32x1024x384, .f32⟩
  | .hbm, ⟨4, _⟩ => ⟨S32x1024x384, .i32⟩
  | .hbm, ⟨5, _⟩ => ⟨S32x1024x1, .f32⟩
  | .hbm, ⟨6, _⟩ => ⟨S32x1024, .f32⟩
  | .hbm, ⟨7, _⟩ => ⟨S20x1024, .f32⟩
  | .hbm, ⟨8, _⟩ => ⟨S20x1024, .i32⟩
  | .hbm, ⟨9, _⟩ => ⟨S_, .i32⟩
  | .hbm, ⟨10, _⟩ => ⟨S20x1024, .i32⟩
  | .hbm, ⟨11, _⟩ => ⟨S20x1024, .i1⟩
  | .hbm, ⟨12, _⟩ => ⟨S_, .i32⟩
  | .hbm, ⟨13, _⟩ => ⟨S20x1024, .i32⟩
  | .hbm, ⟨14, _⟩ => ⟨S20x1024, .i32⟩
  | .hbm, ⟨15, _⟩ => ⟨S_, .i32⟩
  | .hbm, ⟨16, _⟩ => ⟨S20x1024, .i32⟩
  | .hbm, ⟨17, _⟩ => ⟨S20x1024, .i32⟩
  | .hbm, ⟨18, _⟩ => ⟨S20x1024, .i32⟩
  | .hbm, ⟨19, _⟩ => ⟨S20x1024, .f32⟩
  | .hbm, ⟨20, _⟩ => ⟨S20x1x1024, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [BitOps F]
-- ==== Mask.lean ====
abbrev S32x768x32x32 : Shape := ⟨4, ![32, 768, 32, 32]⟩
abbrev S32x1x1024 : Shape := ⟨3, ![32, 1, 1024]⟩
abbrev S32x768x1024 : Shape := ⟨3, ![32, 768, 1024]⟩
abbrev S1x768x1024 : Shape := ⟨3, ![1, 768, 1024]⟩
abbrev S1x1x1024 : Shape := ⟨3, ![1, 1, 1024]⟩
abbrev S768x1024 : Shape := ⟨2, ![768, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32x768x32x32, .f32⟩
  | .hbm, ⟨1, _⟩ => ⟨S32x1x1024, .f32⟩
  | .hbm, ⟨2, _⟩ => ⟨S32x768x1024, .f32⟩
  | .hbm, ⟨3, _⟩ => ⟨S32x768x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x768x1024, .f32⟩
  | .local _ .vmem, ⟨5, _⟩ => ⟨S1x768x1024, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MaskReferenceIdeal.lean ====
abbrev S32x768x32x32 : Shape := ⟨4, ![32, 768, 32, 32]⟩
abbrev S32x1x1024 : Shape := ⟨3, ![32, 1, 1024]⟩
abbrev S32x32x32x768 : Shape := ⟨4, ![32, 32, 32, 768]⟩
abbrev S32x1024x768 : Shape := ⟨3, ![32, 1024, 768]⟩
abbrev S32x1024 : Shape := ⟨2, ![32, 1024]⟩
abbrev S32x1024x1 : Shape := ⟨3, ![32, 1024, 1]⟩
abbrev S_ : Shape := ⟨0, ![]⟩
abbrev S32x768x1024 : Shape := ⟨3, ![32, 768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S32x1x1024, .f32⟩
  | .hbm, ⟨2, _⟩ => ⟨S32x32x32x768, .f32⟩
  | .hbm, ⟨3, _⟩ => ⟨S32x1024x768, .f32⟩
  | .hbm, ⟨4, _⟩ => ⟨S32x1024, .f32⟩
  | .hbm, ⟨5, _⟩ => ⟨S32x1024x1, .f32⟩
  | .hbm, ⟨6, _⟩ => ⟨S32x1024x768, .f32⟩
  | .hbm, ⟨7, _⟩ => ⟨S32x1024x768, .i1⟩
  | .hbm, ⟨8, _⟩ => ⟨S_, .f32⟩
  | .hbm, ⟨9, _⟩ => ⟨S32x1024x768, .f32⟩
  | .hbm, ⟨10, _⟩ => ⟨S32x1024x768, .f32⟩
  | .hbm, ⟨11, _⟩ => ⟨S_, .f32⟩
  | .hbm, ⟨12, _⟩ => ⟨S32x1024x768, .f32⟩
  | .hbm, ⟨13, _⟩ => ⟨S32x1024x768, .f32⟩
  | .hbm, ⟨14, _⟩ => ⟨S32x32x32x768, .f32⟩
  | .hbm, ⟨15, _⟩ => ⟨S32x768x32x32, .f32⟩
  | .hbm, ⟨16, _⟩ => ⟨S32x768x1024, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_call0_v0 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Base.lean ====
/-
  The setting of the proof: the program as the launch theorem sees it, the ghost state, the memrefs the tiles name, and
  the judgement `Runs A p a B`: from the resources `A` the program `p` ends with the result `a` and the resources `B`.
  A straight stretch of the kernel is proved by composing `Runs` statements.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.Kernel
public import proofs.«01_k».proof.Proof.Gen.Kernel.Skeleton

@[expose] public section

noncomputable section

namespace Cert.Proof.Thr

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The memrefs -/

abbrev xM : Memref sig .scVector .hbm S32x768x1024 .f32 := Memref.whole main_v0_scv
abbrev oM : Memref sig .scVector .hbm S12x1x1024 .f32 := Memref.whole main_v1_scv
/-- A tile's scratch: the fetched block, its keys, the thresholds, the histogram. -/
abbrev bM : Memref sig .scVector .vmem S768x128 .f32 := Memref.whole cc0_scratch0
abbrev kM : Memref sig .scVector .vmem S12288 .i32 := Memref.whole cc0_scratch1
abbrev tM : Memref sig .scVector .vmem S128 .f32 := Memref.whole cc0_scratch2
abbrev hM : Memref sig .scVector .vmem S4096 .i32 := Memref.whole cc0_scratch3

/-- The launch arrays, as locations of device `d`. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1

abbrev cV (L : grid0.Coords) : Fin τ.nSC := (L 0).castLE hcore0
abbrev jV (L : grid0.Coords) : Fin τ.nSub := (L 1).castLE hsub0
/-- The tile at the grid coordinates `L`. -/
abbrev tile (d : Dev nD) (L : grid0.Coords) : Thread nD τ := V d (cV L) (jV L)

/-! ## Running a stretch of a tile's program -/

section Runs

variable (d : Dev nD) (L : grid0.Coords)

/-- From `A`, the program `p` of tile `L` ends with the result `a`, leaving `B`. -/
def Runs {α : Type} (A : sProp 𝕄) (p : Prog (TpuEff nD τ sig (Elt F) Λ₀ (.scVector (cV L) (jV L))) α) (a : α) (B : sProp 𝕄) : Prop :=
  ∀ Q : α → sProp 𝕄, A ⊢ iprop((B -∗ Q a) -∗ wp frame (wpE (defs₀ (F := F)) 𝒱₀ (tile d L) none) Set.univ p Q)

variable {d L} {α β : Type} {A B C R : sProp (MT nD τ sig (HIx 1) (Elt F) ℕ UU ℕ)}

theorem Runs.pure (a : α) : Runs (F := F) d L A (Pure.pure a) a A := by
  intro Q
  iintro H HQ
  rw [Prog.pure_eq_ret, wp_ret]
  imodintro
  iapply HQ; iexact H

theorem Runs.bind {p : Prog (TpuEff nD τ sig (Elt F) Λ₀ (.scVector (cV L) (jV L))) α} {a : α}
    {k : α → Prog (TpuEff nD τ sig (Elt F) Λ₀ (.scVector (cV L) (jV L))) β} {b : β}
    (hp : Runs (F := F) d L A p a B) (hk : Runs (F := F) d L B (k a) b C) : Runs (F := F) d L A (p >>= k) b C := by
  intro Q
  rw [wp_bind]
  iintro HA HQ
  iapply (hp _) $$ HA
  iintro HB
  iapply (hk Q) $$ HB
  iexact HQ

theorem Runs.framed {p : Prog (TpuEff nD τ sig (Elt F) Λ₀ (.scVector (cV L) (jV L))) α} {a : α}
    (hp : Runs (F := F) d L A p a B) : Runs (F := F) d L iprop(A ∗ R) p a iprop(B ∗ R) := by
  intro Q
  iintro ⟨HA, HR⟩ HQ
  iapply (hp Q) $$ HA
  iintro HB
  iapply HQ
  isplitl [HB] <;> iassumption

theorem Runs.conseq {A' B' : sProp 𝕄} {p : Prog (TpuEff nD τ sig (Elt F) Λ₀ (.scVector (cV L) (jV L))) α} {a : α}
    (hp : Runs (F := F) d L A p a B) (hA : A' ⊢ A) (hB : B ⊢ B') : Runs (F := F) d L A' p a B' := by
  intro Q
  iintro HA HQ
  ihave HA' := hA $$ HA
  iapply (hp Q) $$ HA'
  iintro HB
  iapply HQ
  iapply hB; iexact HB

theorem Runs.assume {P : Prop} {dec : Decidable P} (h : P) :
    Runs (F := F) d L A (Prog.lift (TpuEff.assume P dec)) ⟨h⟩ A := by
  intro Q
  iintro H HQ
  simp only [Prog.lift]
  rw [wp_assume_of _ _ _ _ h, wp_ret]
  imodintro
  iapply HQ; iexact H

/-- A counted loop, by an invariant. -/
theorem Runs.loop (l : Scf.Loop 32) (hok : l.OK) {σ : Type} (s : ℕ → σ)
    (body : Fin l.trips → σ → Prog (TpuEff nD τ sig (Elt F) Λ₀ (.scVector (cV L) (jV L))) σ)
    (I : ℕ → sProp 𝕄) (hbody : ∀ k : Fin l.trips, Runs (F := F) d L (I k.val) (body k (s k.val)) (s (k.val + 1)) (I (k.val + 1))) :
    Runs (F := F) d L (I 0) (Scf.Loop.for l hok (s 0) body) (s l.trips) (I l.trips) := by
  intro Q
  iintro HI HQ
  iapply (Scf.wp_for frame _ Set.univ l.lb l.ub l.st hok (s 0) body (fun n acc => iprop(⌜acc = s n⌝ ∗ I n)) ?step)
  case step =>
    intro k acc
    iintro ⟨%h, HI⟩
    subst h
    iapply (hbody k _) $$ HI
    iintro HI
    isplitr
    · ipureintro; rfl
    · iexact HI
  isplitl [HI]
  · isplitr
    · ipureintro; rfl
    · iexact HI
  iintro %acc ⟨%h, HI⟩
  subst h
  iapply HQ; iexact HI

/-! ### The histogram -/

variable (d L) in
/-- The histogram at the contents `h`. -/
abbrev hPts (h : S4096.Idx → BitVec 32) : sProp 𝕄 := (hM).view.loc (tile d L) ↦{fullShare} (h : Buf (Elt F) ((hM).view.loc (tile d L)))

theorem hix_lt (n : ℕ) (a : Fin 1) : n % 4096 < S4096.size a := by
  rw [show S4096.size a = 4096 from Subsingleton.elim 0 a ▸ rfl]
  exact Nat.mod_lt _ (by decide)

/-- Word `n` of the histogram. -/
def hix (n : ℕ) : S4096.Idx := fun a => ⟨n % 4096, hix_lt n a⟩

/-- The sixteen words from word `o` on. -/
def ld (h : S4096.Idx → BitVec 32) (o : ℕ) : IVec S16 32 := fun l => h (hix (o + (l 0).val))

theorem readAt_ld (h : S4096.Idx → BitVec 32) (o : ℕ) (inb) :
    (hM).view.readAt (Elt F) (Rect.unit (s := S4096) ![o] S16.size inb).toLoadRect (h : Buf (Elt F) ((hM).view.loc (tile d L))) = ld h o := by
  funext l
  simp only [View.readAt_apply, Memref.view_whole, View.read_whole]
  unfold ld
  congr 1
  funext a; apply Fin.ext
  rw [LoadRect.idx_apply]
  obtain rfl : a = 0 := Subsingleton.elim _ _
  show o + 1 * (l 0).val = (o + (l 0).val) % 4096
  have h1 := inb 0
  have h2 : (l 0).val < 16 := (l 0).isLt
  have h3 : o + 16 ≤ 4096 := h1
  omega

theorem Runs.load16 {h : S4096.Idx → BitVec 32} {o : ℕ} {inb} {hl} :
    Runs (F := F) d L (hPts d L h) (Prog.lift (.load hM (Rect.unit (s := S4096) ![o] S16.size inb).toLoadRect hl)) (ld h o) (hPts d L h) := by
  intro Q
  iintro H HQ
  simp only [Prog.lift]
  iapply (wp_load 𝒱₀ (tile d L) none Set.univ (m := hM) (S := Finset.univ) (Finset.subset_univ _)) $$ H
  iintro H
  rw [readAt_ld, wp_ret]
  imodintro
  iapply HQ; iexact H

theorem read_whole_hM (h : S4096.Idx → BitVec 32) :
    ((hM).access (.whole S4096)).read (Elt F) (h : Buf (Elt F) ((hM).view.loc (tile d L))) = h := by
  exact Memref.read_access_whole (Elt F) _ _

theorem Runs.gather {h : S4096.Idx → BitVec 32} {idxs : Fin S4096.rank → IVec S16 32} {hi : ∀ a x, (idxs a x).toNat < S4096.size a}
    {hl : (hM).view.Loads} :
    Runs (F := F) d L (hPts d L h) (SparseCore.vectorLoadIdx (F := F) (e := .i32) hM idxs hi hl) (loadIdx (F := F) (e := .i32) h idxs hi) (hPts d L h) := by
  intro Q
  iintro H HQ
  rw [← bind_pure (SparseCore.vectorLoadIdx _ _ _ _)]
  iapply (SparseCore.wp_vectorLoadIdx 𝒱₀ (tile d L) none Set.univ (base := hM) (S := Finset.univ) (q := fullShare) (Finset.subset_univ _)) $$ H
  iintro H
  rw [Prog.pure_eq_ret, wp_ret]
  imodintro
  rw [read_whole_hM]
  iapply HQ; iexact H

end Runs

end Cert.Proof.Thr

end
-- ==== Proof.Hist.lean ====
/-
  What one scan of the histogram computes, as functions of the histogram's contents: the sums of the sixteen coarse
  buckets, the coarse bucket the running sum from the top crosses the rank in, the sum above it, and the same once more
  over the sixteen fine buckets of that coarse bucket.
-/
module

public import proofs.«01_k».proof.Proof.Base

@[expose] public section

noncomputable section

namespace Cert.Proof.Thr

open Cert.Kernel Cert.Kernel.Gen
open Idealize.ShloMosaic

abbrev zero16 : IVec S16 32 := broadcast S16 0#32
abbrev lanes : IVec S16 32 := iota .scVector S16 32 [0] iota_S16_d0_w32_scVector

/-- The words `o`, `o + 16`, …, `o + 16 n` of each lane, added up. -/
def psum (h : S4096.Idx → BitVec 32) (o : ℕ) : ℕ → IVec S16 32
  | 0 => ld h o
  | n + 1 => addi (psum h o n) (ld h (o + 16 * (n + 1)))

/-- The sum of coarse bucket `cg`. -/
def csum (h : S4096.Idx → BitVec 32) (cg : ℕ) : IVec S16 32 := psum h (256 * cg) 15

/-- The running sum from bucket 15 down, after `n` buckets. -/
def cum (s : ℕ → IVec S16 32) : ℕ → IVec S16 32
  | 0 => zero16
  | n + 1 => addi (cum s n) (s (15 - n))

/-- Whether bucket `15 - n` takes the running sum from below `kt` to `kt` or more. -/
def newly (kt : IVec S16 32) (s : ℕ → IVec S16 32) (n : ℕ) : IVec S16 1 :=
  andi (cmpi .slt (cum s n) kt) (cmpi .sge (cum s (n + 1)) kt)

/-- The bucket chosen, and the sum above it, after `n` buckets. -/
def sel (kt : IVec S16 32) (s : ℕ → IVec S16 32) : ℕ → IVec S16 32
  | 0 => zero16
  | n + 1 => select (newly kt s n) (broadcast S16 (BitVec.ofNat 32 (15 - n))) (sel kt s n)
def base (kt : IVec S16 32) (s : ℕ → IVec S16 32) : ℕ → IVec S16 32
  | 0 => zero16
  | n + 1 => select (newly kt s n) (cum s n) (base kt s n)

/-- The words of the histogram an index vector names. -/
def gath (h : S4096.Idx → BitVec 32) (w : IVec S16 32) : IVec S16 32 := fun l => h (hix (w l).toNat)

/-- The first word of the chosen coarse bucket, in each lane. -/
def wb (kt : IVec S16 32) (h : S4096.Idx → BitVec 32) : IVec S16 32 :=
  addi (shli (sel kt (csum h) 16) (broadcast S16 8#32)) lanes

/-- Fine bucket `j` of the coarse bucket that starts at `w`. -/
def fine (h : S4096.Idx → BitVec 32) (w : IVec S16 32) (j : ℕ) : IVec S16 32 :=
  gath h (addi w (broadcast S16 (BitVec.ofNat 32 (16 * j))))

/-- The rank left in the coarse bucket. -/
def kt2 (kt : IVec S16 32) (h : S4096.Idx → BitVec 32) : IVec S16 32 := subi kt (base kt (csum h) 16)

/-- What the scan finds: the bucket of rank `kt` from the top, and how many entries lie above it. -/
def scanSel (kt : IVec S16 32) (h : S4096.Idx → BitVec 32) : IVec S16 32 :=
  addi (shli (sel kt (csum h) 16) (broadcast S16 4#32)) (sel (kt2 kt h) (fine h (wb kt h)) 16)
def scanBase (kt : IVec S16 32) (h : S4096.Idx → BitVec 32) : IVec S16 32 :=
  addi (base kt (csum h) 16) (base (kt2 kt h) (fine h (wb kt h)) 16)

theorem shrsi_const (x : BitVec 32) (n : ℕ) (hn : n < 32) :
    IntOp.shrsi .vector x (BitVec.ofNat 32 n) = x.sshiftRight n := by
  have e : (BitVec.ofNat 32 n).toNat = n := by rw [BitVec.toNat_ofNat]; omega
  show (if (BitVec.ofNat 32 n).toNat < 32 then x.sshiftRight' (BitVec.ofNat 32 n) else _) = _
  rw [if_pos (by omega)]
  show x.sshiftRight _ = _
  rw [e]

theorem shli_const (x : BitVec 32) (n : ℕ) (hn : n < 32) :
    IntOp.shli .vector x (BitVec.ofNat 32 n) = x <<< n := by
  have e : (BitVec.ofNat 32 n).toNat = n := by rw [BitVec.toNat_ofNat]; omega
  show (if (BitVec.ofNat 32 n).toNat < 32 then x <<< (BitVec.ofNat 32 n) else _) = _
  rw [if_pos (by omega)]
  show x <<< (BitVec.ofNat 32 n).toNat = _
  rw [e]

theorem lanes_apply (l : S16.Idx) : lanes l = BitVec.ofNat 32 (l 0).val := by
  show BitVec.ofNat 32 (0 * 16 + (l 0).val) = _
  rw [Nat.zero_mul, Nat.zero_add]

theorem select_eq {s : Shape} (c : IVec s 1) (x y : IVec s 32) (l : s.Idx) : select c x y l = if c l = 1 then x l else y l := by
  show Scalar.select (c l) (x l) (y l) = _
  unfold Scalar.select
  rfl

theorem select_cases {s : Shape} (c : IVec s 1) (x y : IVec s 32) (l : s.Idx) : select c x y l = x l ∨ select c x y l = y l := by
  rw [select_eq]; split <;> simp

theorem sel_le (kt : IVec S16 32) (s : ℕ → IVec S16 32) (n : ℕ) (l : S16.Idx) : (sel kt s n l).toNat ≤ 15 := by
  induction n with
  | zero => exact Nat.zero_le _
  | succ n ih =>
    rcases select_cases (newly kt s n) (broadcast S16 (BitVec.ofNat 32 (15 - n))) (sel kt s n) l with h | h
    · refine (congrArg BitVec.toNat h).le.trans ?_
      show (BitVec.ofNat 32 (15 - n)).toNat ≤ 15
      rw [BitVec.toNat_ofNat, Nat.mod_eq_of_lt (by omega)]; omega
    · exact (congrArg BitVec.toNat h).le.trans ih

/-- Every word the fine scan names is inside the histogram. -/
theorem wb_lt (kt : IVec S16 32) (h : S4096.Idx → BitVec 32) (j : ℕ) (hj : j ≤ 15) (l : S16.Idx) :
    (addi (wb kt h) (broadcast S16 (BitVec.ofNat 32 (16 * j))) l).toNat = 256 * (sel kt (csum h) 16 l).toNat + (l 0).val + 16 * j := by
  have h1 := sel_le kt (csum h) 16 l
  have h2 : (l 0).val < 16 := (l 0).isLt
  show (IntOp.shli .vector (sel kt (csum h) 16 l) (BitVec.ofNat 32 8) + lanes l + BitVec.ofNat 32 (16 * j)).toNat = _
  rw [shli_const _ _ (by decide), lanes_apply, BitVec.toNat_add, BitVec.toNat_add, BitVec.toNat_shiftLeft, BitVec.toNat_ofNat, BitVec.toNat_ofNat,
    Nat.shiftLeft_eq]
  omega

theorem chk_ok (kt : IVec S16 32) (h : S4096.Idx → BitVec 32) (j : ℕ) (hj : j ≤ 15) :
    ∀ a x, ((![addi (wb kt h) (broadcast S16 (BitVec.ofNat 32 (16 * j)))] : Fin 1 → IVec S16 32) a x).toNat < S4096.size a := by
  intro a x
  obtain rfl : a = 0 := Subsingleton.elim _ _
  show (addi (wb kt h) (broadcast S16 (BitVec.ofNat 32 (16 * j))) x).toNat < 4096
  have h1 := sel_le kt (csum h) 16 x
  have h2 : (x 0).val < 16 := (x 0).isLt
  rw [wb_lt kt h j hj]; omega

end Cert.Proof.Thr

end
-- ==== Proof.Keys.lean ====
/-
  The keys of a block's columns and the histograms of their upper bytes, as functions, and how one sixteen-lane step
  changes a buffer: a stored row, and a scatter that adds one word to each lane's own column of the histogram.
-/
module

public import proofs.«01_k».proof.Proof.Hist
public import Idealize.ShloMosaic.Lib.Pipeline.Value

@[expose] public section

noncomputable section

namespace Cert.Proof.Thr

open Cert.Kernel Cert.Kernel.Gen
open Idealize.ShloMosaic

variable {F : FTy → Type} [BitOps F]

theorem lane_lt (n : ℕ) (a : Fin 1) : n % 16 < S16.size a := by
  rw [show S16.size a = 16 from Subsingleton.elim 0 a ▸ rfl]
  exact Nat.mod_lt _ (by decide)

/-- Lane `n` of a vector. -/
def lane (n : ℕ) : S16.Idx := fun a => ⟨n % 16, lane_lt n a⟩

theorem lane_val (n : ℕ) : (lane n 0).val = n % 16 := rfl

theorem lane_self (l : S16.Idx) : lane (l 0).val = l := by
  funext a; apply Fin.ext
  obtain rfl : a = 0 := Subsingleton.elim _ _
  exact Nat.mod_eq_of_lt (l 0).isLt

theorem lane_congr {n m : ℕ} (e : n % 16 = m % 16) : lane n = lane m := by
  funext a; apply Fin.ext; exact e

theorem hix_self (y : S4096.Idx) : hix (y 0).val = y := by
  funext a; apply Fin.ext
  obtain rfl : a = 0 := Subsingleton.elim _ _
  exact Nat.mod_eq_of_lt (y 0).isLt

theorem hix_val {n : ℕ} (hn : n < 4096) : (hix n 0).val = n := Nat.mod_eq_of_lt hn

/-! ## A stored row of a one-axis buffer -/

section Rows

variable {n : ℕ} {e : EltTy} (m : Memref sig .scVector .vmem ⟨1, ![n]⟩ e)

theorem read_write_row (f : m.view.ty.Contents (Elt F)) (off : Fin 1 → ℕ) (o : ℕ) (ho : off = ![o])
    (inb : ∀ a, off a + S16.size a ≤ (⟨1, ![n]⟩ : Shape).size a) (w : S16.Idx → Elt F e) (y : (⟨1, ![n]⟩ : Shape).Idx) :
    m.view.read (Elt F) ((m.access (Rect.unit off S16.size inb)).write (Elt F) f w Finset.univ) y
      = if o ≤ (y 0).val ∧ (y 0).val < o + 16 then w (lane ((y 0).val - o)) else m.view.read (Elt F) f y := by
  subst ho
  split
  · next h =>
    refine View.read_writes_cons_hit_of_coords (Val := Elt F) m.view f (Rect.unit ![o] S16.size inb) w [] (lane ((y 0).val - o)) y ?_
    intro a
    obtain rfl : a = 0 := Subsingleton.elim _ _
    show (y 0).val = o + 1 * (((y 0).val - o) % 16)
    omega
  · next h =>
    refine View.read_writes_cons_miss_of_axis (Val := Elt F) m.view f ⟨Rect.unit ![o] S16.size inb, w⟩ [] y 0 o 16 rfl rfl rfl ?_
    omega

theorem readAt_row (f : m.view.ty.Contents (Elt F)) (off : Fin 1 → ℕ) (o : ℕ) (ho : off = ![o])
    (inb : ∀ a, off a + S16.size a ≤ (⟨1, ![n]⟩ : Shape).size a) (l : S16.Idx) (y : (⟨1, ![n]⟩ : Shape).Idx) (hy : (y 0).val = o + (l 0).val) :
    m.view.readAt (Elt F) (Rect.unit (s := ⟨1, ![n]⟩) off S16.size inb).toLoadRect f l = m.view.read (Elt F) f y := by
  subst ho
  rw [View.readAt_apply]
  congr 1
  funext a; apply Fin.ext
  rw [LoadRect.idx_apply]
  obtain rfl : a = 0 := Subsingleton.elim _ _
  rw [hy]
  show o + 1 * (l 0).val = _
  omega

end Rows

/-! ## The keys -/

/-- The order-preserving integer of a float's bits. -/
def keyOf (w : BitVec 32) : BitVec 32 := w ^^^ (0x7FFFFFFF#32 &&& w.sshiftRight 31)

/-- Row `c`, column `n` of a block. -/
theorem bix_lt0 (c : ℕ) : c % 768 < 768 := Nat.mod_lt _ (by decide)
theorem bix_lt1 (n : ℕ) : n % 128 < 128 := Nat.mod_lt _ (by decide)
def bix (c n : ℕ) : S768x128.Idx := fun | 0 => ⟨c % 768, bix_lt0 c⟩ | 1 => ⟨n % 128, bix_lt1 n⟩

/-- The keys of row `c` of the block `b`, in the sixteen columns of group `g`. -/
def keys (b : S768x128.Idx → Elt F .f32) (g c : ℕ) : IVec S16 32 :=
  fun l => keyOf (BitOps.toBits (F := F) (φ := .f32) (b (bix c (16 * g + (l 0).val))))

/-- Lane `l` of a one-row block. -/
def rix (l : S16.Idx) : S1x16.Idx := fun | 0 => (0 : Fin 1) | 1 => l 0

theorem pay4_eq (v : Vec F S1x16 .f32) (l : S16.Idx) :
    k0_pay4 v l = keyOf (BitOps.toBits (F := F) (φ := .f32) (v (rix l))) := by
  have e : shapeCast S16 v shapeCasts_S1x16_S16 l = v (rix l) := by
    refine shapeCast_apply v shapeCasts_S1x16_S16 l (rix l) ?_
    rw [Shape.rowMajor_val_two, Shape.rowMajor_val_one]
    show 0 * 16 + (l 0).val = (l 0).val
    omega
  show IntOp.xori _ (IntOp.andi _ (IntOp.shrsi .vector _ (BitVec.ofNat 32 31))) = _
  rw [shrsi_const _ _ (by decide)]
  show keyOf (BitOps.toBits (F := F) (φ := .f32) (shapeCast S16 v shapeCasts_S1x16_S16 l)) = _
  rw [e]

/-! ## Scatters into the histogram -/

/-- How many of the rows below `n` lane `l` counts into bucket `k`. -/
def tally (p : ℕ → S16.Idx → Bool) (b : ℕ → S16.Idx → ℕ) (n : ℕ) (l : S16.Idx) (k : ℕ) : ℕ :=
  ((Finset.range n).filter fun c => p c l = true ∧ b c l = k).card

/-- The histogram of the first `n` rows: word `16 k + l` counts bucket `k` of lane `l`. -/
def histo (p : ℕ → S16.Idx → Bool) (b : ℕ → S16.Idx → ℕ) (n : ℕ) : S4096.Idx → BitVec 32 :=
  fun i => BitVec.ofNat 32 (tally p b n (lane (i 0).val) ((i 0).val / 16))

theorem tally_succ (p : ℕ → S16.Idx → Bool) (b : ℕ → S16.Idx → ℕ) (n : ℕ) (l : S16.Idx) (k : ℕ) :
    tally p b (n + 1) l k = tally p b n l k + if p n l = true ∧ b n l = k then 1 else 0 := by
  unfold tally
  rw [Finset.range_add_one, Finset.filter_insert]
  split
  · rw [Finset.card_insert_of_notMem]; simp
  · rfl

theorem foldl_add (f : S4096.Idx → BitVec 32) (hit : S4096.Idx → Fin 16 → Bool) (step : (S4096.Idx → BitVec 32) → Fin 16 → S4096.Idx → BitVec 32)
    (hstep : ∀ g k j, step g k j = g j + if hit j k then 1#32 else 0#32) (ls : List (Fin 16)) (j : S4096.Idx) :
    ls.foldl step f j = f j + BitVec.ofNat 32 (ls.countP (hit j)) := by
  induction ls generalizing f with
  | nil => simp
  | cons k ls ih =>
    rw [List.foldl_cons, ih, hstep, List.countP_cons]
    split
    · rw [BitVec.add_assoc]; congr 1; rw [← BitVec.ofNat_add, Nat.add_comm]
    · simp

theorem countP_finRange (q : Bool) (l : Fin 16) : (List.finRange 16).countP (fun k => decide (k.val = l.val) && q) = if q then 1 else 0 := by
  revert q l; decide

theorem ofLane_eq (k : Fin 16) : (Shape.ofLane (d := ![16]) k : S16.Idx) = lane k.val := by
  funext a; apply Fin.ext
  obtain rfl : a = 0 := Subsingleton.elim _ _
  exact (Nat.mod_eq_of_lt k.isLt).symm

theorem storeIdx_histo (p : ℕ → S16.Idx → Bool) (b : ℕ → S16.Idx → ℕ) (n : ℕ) (w : IVec S16 32) (mask : IVec S16 1) {hi}
    (hw : ∀ l, (w l).toNat = 16 * b n l + (l 0).val) (hm : ∀ l, mask l = 1 ↔ p n l = true) :
    storeIdx (F := F) (s := S4096) (e := .i32) (d := ![16]) (histo p b n) ![w] (broadcast S16 1#32) mask true hi = histo p b (n + 1) := by
  funext j
  unfold storeIdx
  refine (foldl_add (histo p b n) (fun j k => decide (k.val = (⟨(j 0).val % 16, Nat.mod_lt _ (by decide)⟩ : Fin 16).val) &&
      (p n (lane (j 0).val) && decide (b n (lane (j 0).val) = (j 0).val / 16)))
    _ ?_ (List.finRange 16) j).trans ?_
  · intro g k j
    dsimp only
    rw [ofLane_eq]
    have hk : (lane k.val 0).val = k.val := Nat.mod_eq_of_lt k.isLt
    have h1 := hw (lane k.val)
    rw [hk] at h1
    have hj : (∀ a, (j a).val = (idxAt (s := S4096) ![w] hi (lane k.val) a).val) ↔ (j 0).val = 16 * b n (lane k.val) + k.val := by
      rw [← h1]
      exact ⟨fun h => h 0, fun h a => by obtain rfl : a = 0 := Subsingleton.elim _ _; exact h⟩
    by_cases hmk : mask (lane k.val) = 1
    · rw [if_pos hmk]
      have hpk := (hm _).mp hmk
      by_cases hjk : (j 0).val = 16 * b n (lane k.val) + k.val
      · have hl : lane (j 0).val = lane k.val := lane_congr (by omega)
        rw [if_pos (hj.mpr hjk), if_pos rfl, if_pos]
        · refine congrArg (fun z => g z + 1#32) ?_
          funext a; apply Fin.ext
          obtain rfl : a = 0 := Subsingleton.elim _ _
          show (w (lane k.val)).toNat = (j 0).val
          omega
        · rw [hl, hpk]; simp only [Bool.true_and, Bool.and_eq_true, decide_eq_true_eq]
          have := k.isLt
          omega
      · rw [if_neg (mt hj.mp hjk), if_neg]
        · simp
        · intro h
          simp only [Bool.and_eq_true, decide_eq_true_eq] at h
          obtain ⟨h2, h3, h4⟩ := h
          have hl : lane (j 0).val = lane k.val := lane_congr (by omega)
          rw [hl] at h4
          omega
    · rw [if_neg hmk, if_neg]
      · simp
      · intro h
        simp only [Bool.and_eq_true, decide_eq_true_eq] at h
        obtain ⟨h2, h3, h4⟩ := h
        have hl : lane (j 0).val = lane k.val := lane_congr (by omega)
        rw [hl] at h3
        exact hmk ((hm _).mpr h3)
  · rw [countP_finRange]
    show BitVec.ofNat 32 _ + _ = BitVec.ofNat 32 _
    rw [← BitVec.ofNat_add, tally_succ]
    simp only [Bool.and_eq_true, decide_eq_true_eq]

/-! ## The buckets of a key -/

/-- The bucket of a key's top byte, from the smallest key up, and of its second byte. -/
def top (x : BitVec 32) : ℕ := (x.sshiftRight 24 + 128#32).toNat
def snd (x : BitVec 32) : ℕ := (x.sshiftRight 16 &&& 255#32).toNat

theorem toInt_bounds (x : BitVec 32) : -2147483648 ≤ x.toInt ∧ x.toInt < 2147483648 := by
  have h1 := BitVec.le_toInt x
  have h2 := BitVec.toInt_lt (x := x)
  omega

theorem sshiftRight_toInt (x : BitVec 32) (n : ℕ) : (x.sshiftRight n).toInt = x.toInt / 2 ^ n := by
  rw [BitVec.toInt_sshiftRight, Int.shiftRight_eq_div_pow]
  norm_cast

theorem top_eq (x : BitVec 32) : (top x : Int) = x.toInt / 16777216 + 128 := by
  have h := sshiftRight_toInt x 24
  have hb := toInt_bounds x
  rw [show (2 : Int) ^ 24 = 16777216 from rfl] at h
  unfold top
  rw [BitVec.toNat_add]
  rw [BitVec.toInt_eq_toNat_cond] at h
  have := (x.sshiftRight 24).isLt
  rw [show (128#32).toNat = 128 from rfl]
  split at h <;> omega

theorem top_lt (x : BitVec 32) : top x < 256 := by
  have h := top_eq x
  have hb := toInt_bounds x
  omega

theorem snd_eq (x : BitVec 32) : (snd x : Int) = x.toInt / 65536 % 256 := by
  have h := sshiftRight_toInt x 16
  have hb := toInt_bounds x
  rw [show (2 : Int) ^ 16 = 65536 from rfl] at h
  unfold snd
  rw [BitVec.toNat_and, show (255#32).toNat = 2 ^ 8 - 1 from rfl, Nat.and_two_pow_sub_one_eq_mod]
  rw [BitVec.toInt_eq_toNat_cond] at h
  have := (x.sshiftRight 16).isLt
  split at h <;> omega

theorem snd_lt (x : BitVec 32) : snd x < 256 := by
  have h := snd_eq x
  omega

theorem pay5_toNat (v : Vec F S1x16 .f32) (l : S16.Idx) :
    (k0_pay5 lanes v l).toNat = 16 * top (k0_pay4 v l) + (l 0).val := by
  have h1 := top_lt (k0_pay4 v l)
  have h2 : (l 0).val < 16 := (l 0).isLt
  show (IntOp.shli .vector (IntOp.shrsi .vector (k0_pay4 v l) (BitVec.ofNat 32 24) + 128#32) (BitVec.ofNat 32 4) + lanes l).toNat = _
  rw [shli_const _ _ (by decide), shrsi_const _ _ (by decide), lanes_apply, BitVec.toNat_add, BitVec.toNat_shiftLeft, BitVec.toNat_ofNat,
    Nat.shiftLeft_eq]
  change (top (k0_pay4 v l) * 2 ^ 4 % 2 ^ 32 + _) % 2 ^ 32 = _
  omega

theorem pay137_toNat (v : IVec S16 32) (l : S16.Idx) :
    (k0_pay137 (F := F) lanes v l).toNat = 16 * snd (v l) + (l 0).val := by
  have h1 := snd_lt (v l)
  have h2 : (l 0).val < 16 := (l 0).isLt
  show (IntOp.shli .vector (IntOp.shrsi .vector (v l) (BitVec.ofNat 32 16) &&& 255#32) (BitVec.ofNat 32 4) + lanes l).toNat = _
  rw [shli_const _ _ (by decide), shrsi_const _ _ (by decide), lanes_apply, BitVec.toNat_add, BitVec.toNat_shiftLeft, BitVec.toNat_ofNat,
    Nat.shiftLeft_eq]
  change (snd (v l) * 2 ^ 4 % 2 ^ 32 + _) % 2 ^ 32 = _
  omega

/-- The histogram of the first `n` rows' top bytes, and of the second bytes of those whose top byte is `t`. -/
def hist1 (ks : ℕ → IVec S16 32) (n : ℕ) : S4096.Idx → BitVec 32 := histo (fun _ _ => true) (fun c l => top (ks c l)) n
def hist2 (ks : ℕ → IVec S16 32) (t : IVec S16 32) (n : ℕ) : S4096.Idx → BitVec 32 :=
  histo (fun c l => (ks c l).sshiftRight 24 == t l) (fun c l => snd (ks c l)) n

/-- The key buffer after the first `n` rows. -/
def kbuf (ks : ℕ → IVec S16 32) (k0 : S12288.Idx → BitVec 32) (n : ℕ) : S12288.Idx → BitVec 32 :=
  fun i => if (i 0).val < 16 * n then ks ((i 0).val / 16) (lane (i 0).val) else k0 i

/-- The histogram with its first `n` rows of sixteen cleared. -/
def clr (h : S4096.Idx → BitVec 32) (n : ℕ) : S4096.Idx → BitVec 32 := fun i => if (i 0).val < 16 * n then 0#32 else h i

theorem clr_zero (h : S4096.Idx → BitVec 32) : clr h 0 = h := by
  funext i; exact if_neg (by omega)

theorem clr_all (h : S4096.Idx → BitVec 32) : clr h 256 = fun _ => 0#32 := by
  funext i
  have : (i 0).val < 4096 := (i 0).isLt
  exact if_pos (by omega)

theorem kbuf_zero (ks : ℕ → IVec S16 32) (k0 : S12288.Idx → BitVec 32) : kbuf ks k0 0 = k0 := by
  funext i; exact if_neg (by omega)

theorem histo_zero (p : ℕ → S16.Idx → Bool) (b : ℕ → S16.Idx → ℕ) : histo p b 0 = fun _ => 0#32 := by
  funext i; show BitVec.ofNat 32 _ = _; unfold tally; simp

end Cert.Proof.Thr

end
-- ==== Proof.ScanA.lean ====
/-
  The two scans of the histogram, part by part: each part of the printed body reads the histogram and returns the
  running values of `Hist`.
-/
module

public import proofs.«01_k».proof.Proof.Hist

@[expose] public section

noncomputable section

namespace Cert.Proof.Thr

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-- A part of the body, given the tile's buffers. -/
abbrev onTile.{u} {β : grid0.Coords → Sort u} (L : grid0.Coords)
    (f : ∀ (i : grid0.Coords) (a2 : Memref sig .scVector .hbm S32x768x1024 .f32) (_ : a2.IsWhole)
      (a3 : Memref sig .scVector .hbm S12x1x1024 .f32) (_ : a3.IsWhole) (a4 : Memref sig .scVector .vmem S768x128 .f32) (_ : a4.IsWhole)
      (a5 : Memref sig .scVector .vmem S12288 .i32) (_ : a5.IsWhole) (a6 : Memref sig .scVector .vmem S128 .f32) (_ : a6.IsWhole)
      (a7 : Memref sig .scVector .vmem S4096 .i32) (_ : a7.IsWhole) (_ _ : DmaSems sig S_), β i) : β L :=
  f L xM (Memref.isWhole_whole _) oM (Memref.isWhole_whole _) bM (Memref.isWhole_whole _) kM (Memref.isWhole_whole _)
    tM (Memref.isWhole_whole _) hM (Memref.isWhole_whole _) cc0_scoped0 cc0_scoped1

variable {d : Dev nD} {L : grid0.Coords} {R : sProp (MT nD τ sig (HIx 1) (Elt F) ℕ UU ℕ)} {h : S4096.Idx → BitVec 32}

theorem Runs.pure' {α : Type} {A : sProp 𝕄} {a b : α} (e : a = b) : Runs (F := F) d L A (Pure.pure a) b A := e ▸ .pure a

theorem Runs.bind_ld {β : Type} {B : sProp 𝕄} {b : β} {o : ℕ} {inb} {hl}
    {k : IVec S16 32 → Prog (TpuEff nD τ sig (Elt F) Λ₀ (.scVector (cV L) (jV L))) β}
    (hk : Runs (F := F) d L iprop(hPts d L h ∗ R) (k (ld h o)) b B) :
    Runs (F := F) d L iprop(hPts d L h ∗ R)
      ((Prog.lift (.load hM (Rect.unit (s := S4096) ![o] S16.size inb).toLoadRect hl) :
        Prog (TpuEff nD τ sig (Elt F) Λ₀ (.scVector (cV L) (jV L))) (Vec F S16 .i32)) >>= k) b B :=
  .bind (Runs.framed .load16) hk

theorem loadIdx_gath {w : IVec S16 32} {hi} : loadIdx (F := F) (e := .i32) (s := S4096) h ![w] hi = gath h w := by
  funext l
  unfold gath
  show h _ = h _
  congr 1
  funext a; apply Fin.ext
  obtain rfl : a = 0 := Subsingleton.elim _ _
  have := hi 0 l
  exact (Nat.mod_eq_of_lt this).symm

theorem Runs.bind_gath {β : Type} {B : sProp 𝕄} {b : β} {w : IVec S16 32} {hi} {hl}
    {k : IVec S16 32 → Prog (TpuEff nD τ sig (Elt F) Λ₀ (.scVector (cV L) (jV L))) β}
    (hk : Runs (F := F) d L iprop(hPts d L h ∗ R) (k (gath h w)) b B) :
    Runs (F := F) d L iprop(hPts d L h ∗ R) (SparseCore.vectorLoadIdx (F := F) (e := .i32) hM ![w] hi hl >>= k) b B :=
  .bind (Runs.framed .gather) (by rw [loadIdx_gath]; exact hk)

theorem Runs.bind_assume {β : Type} {A B : sProp 𝕄} {b : β} {P : Prop} {dec : Decidable P}
    {k : PLift P → Prog (TpuEff nD τ sig (Elt F) Λ₀ (.scVector (cV L) (jV L))) β} (hP : P)
    (hk : Runs (F := F) d L A (k ⟨hP⟩) b B) : Runs (F := F) d L A (Prog.lift (TpuEff.assume P dec) >>= k) b B :=
  .bind (.assume hP) hk

abbrev K1 : IVec S16 32 := broadcast S16 384#32

/-- The fine buckets of the coarse bucket the scan chose. -/
abbrev fs (kt : IVec S16 32) (h : S4096.Idx → BitVec 32) : ℕ → IVec S16 32 := fine h (wb kt h)

variable {kt : IVec S16 32}

/-! ## The first scan, up to its last two words -/

theorem run_part2 : Runs (F := F) d L iprop(hPts d L h ∗ R)
    (onTile L (k0_part2 (F := F)) (ld h 256) (ld h 272))
    ⟨csum h 1, psum h 512 5⟩ iprop(hPts d L h ∗ R) := by
  rw [k0_part2_eq_skeleton]; unfold k0_part2_skel
  iterate 20 refine .bind_ld ?_
  exact .pure' rfl

theorem run_part3 : Runs (F := F) d L iprop(hPts d L h ∗ R)
    (onTile L (k0_part3 (F := F)) (psum h 512 5))
    ⟨csum h 2, psum h 768 9⟩ iprop(hPts d L h ∗ R) := by
  rw [k0_part3_eq_skeleton]; unfold k0_part3_skel
  iterate 20 refine .bind_ld ?_
  exact .pure' rfl

theorem run_part4 : Runs (F := F) d L iprop(hPts d L h ∗ R)
    (onTile L (k0_part4 (F := F)) (psum h 768 9))
    ⟨csum h 3, psum h 1024 13, ld h 1248⟩ iprop(hPts d L h ∗ R) := by
  rw [k0_part4_eq_skeleton]; unfold k0_part4_skel
  iterate 21 refine .bind_ld ?_
  exact .pure' rfl

theorem run_part5 : Runs (F := F) d L iprop(hPts d L h ∗ R)
    (onTile L (k0_part5 (F := F)) (psum h 1024 13) (ld h 1248))
    ⟨csum h 4, csum h 5, psum h 1536 2⟩ iprop(hPts d L h ∗ R) := by
  rw [k0_part5_eq_skeleton]; unfold k0_part5_skel
  iterate 20 refine .bind_ld ?_
  exact .pure' rfl

theorem run_part6 : Runs (F := F) d L iprop(hPts d L h ∗ R)
    (onTile L (k0_part6 (F := F)) (psum h 1536 2))
    ⟨csum h 6, psum h 1792 6, ld h 1904⟩ iprop(hPts d L h ∗ R) := by
  rw [k0_part6_eq_skeleton]; unfold k0_part6_skel
  iterate 21 refine .bind_ld ?_
  exact .pure' rfl

theorem run_part7 : Runs (F := F) d L iprop(hPts d L h ∗ R)
    (onTile L (k0_part7 (F := F)) (psum h 1792 6) (ld h 1904))
    ⟨csum h 7, psum h 2048 11⟩ iprop(hPts d L h ∗ R) := by
  rw [k0_part7_eq_skeleton]; unfold k0_part7_skel
  iterate 20 refine .bind_ld ?_
  exact .pure' rfl

theorem run_part8 : Runs (F := F) d L iprop(hPts d L h ∗ R)
    (onTile L (k0_part8 (F := F)) (psum h 2048 11))
    ⟨csum h 8, csum h 9⟩ iprop(hPts d L h ∗ R) := by
  rw [k0_part8_eq_skeleton]; unfold k0_part8_skel
  iterate 20 refine .bind_ld ?_
  exact .pure' rfl

theorem run_part9 : Runs (F := F) d L iprop(hPts d L h ∗ R)
    (onTile L (k0_part9 (F := F)) )
    ⟨csum h 10, psum h 2816 4⟩ iprop(hPts d L h ∗ R) := by
  rw [k0_part9_eq_skeleton]; unfold k0_part9_skel
  iterate 21 refine .bind_ld ?_
  exact .pure' rfl

theorem run_part10 : Runs (F := F) d L iprop(hPts d L h ∗ R)
    (onTile L (k0_part10 (F := F)) (psum h 2816 4))
    ⟨csum h 11, psum h 3072 8⟩ iprop(hPts d L h ∗ R) := by
  rw [k0_part10_eq_skeleton]; unfold k0_part10_skel
  iterate 20 refine .bind_ld ?_
  exact .pure' rfl

theorem run_part11 : Runs (F := F) d L iprop(hPts d L h ∗ R)
    (onTile L (k0_part11 (F := F)) (psum h 3072 8))
    ⟨csum h 12, psum h 3328 12, ld h 3536⟩ iprop(hPts d L h ∗ R) := by
  rw [k0_part11_eq_skeleton]; unfold k0_part11_skel
  iterate 21 refine .bind_ld ?_
  exact .pure' rfl

theorem run_part12 : Runs (F := F) d L iprop(hPts d L h ∗ R)
    (onTile L (k0_part12 (F := F)) (psum h 3328 12) (ld h 3536))
    ⟨csum h 13, csum h 14, psum h 3840 1⟩ iprop(hPts d L h ∗ R) := by
  rw [k0_part12_eq_skeleton]; unfold k0_part12_skel
  iterate 20 refine .bind_ld ?_
  exact .pure' rfl

theorem run_part13 : Runs (F := F) d L iprop(hPts d L h ∗ R)
    (onTile L (k0_part13 (F := F)) zero16 (csum h 14) (psum h 3840 1))
    ⟨cum (csum h) 1, sel K1 (csum h) 1, base K1 (csum h) 1, cum (csum h) 2, cmpi .slt (cum (csum h) 1) K1, cmpi .sge (cum (csum h) 2) K1⟩ iprop(hPts d L h ∗ R) := by
  rw [k0_part13_eq_skeleton]; unfold k0_part13_skel
  iterate 14 refine .bind_ld ?_
  exact .pure' rfl

theorem run_part14 : Runs (F := F) d L iprop(hPts d L h ∗ R)
    (onTile L (k0_part14 (F := F)) (csum h 9) (csum h 10) (csum h 11) (csum h 12) (csum h 13) (cum (csum h) 1) (sel K1 (csum h) 1) (base K1 (csum h) 1) (cum (csum h) 2) (cmpi .slt (cum (csum h) 1) K1) (cmpi .sge (cum (csum h) 2) K1))
    ⟨cum (csum h) 6, sel K1 (csum h) 6, base K1 (csum h) 6, cum (csum h) 7, cmpi .slt (cum (csum h) 6) K1, cmpi .sge (cum (csum h) 7) K1⟩ iprop(hPts d L h ∗ R) := by
  rw [k0_part14_eq_skeleton]; unfold k0_part14_skel
  exact .pure' rfl

theorem run_part15 : Runs (F := F) d L iprop(hPts d L h ∗ R)
    (onTile L (k0_part15 (F := F)) (csum h 4) (csum h 5) (csum h 6) (csum h 7) (csum h 8) (cum (csum h) 6) (sel K1 (csum h) 6) (base K1 (csum h) 6) (cum (csum h) 7) (cmpi .slt (cum (csum h) 6) K1) (cmpi .sge (cum (csum h) 7) K1))
    ⟨cum (csum h) 11, sel K1 (csum h) 11, base K1 (csum h) 11, cum (csum h) 12, cmpi .slt (cum (csum h) 11) K1, cmpi .sge (cum (csum h) 12) K1⟩ iprop(hPts d L h ∗ R) := by
  rw [k0_part15_eq_skeleton]; unfold k0_part15_skel
  exact .pure' rfl

theorem run_part16 : Runs (F := F) d L iprop(hPts d L h ∗ R)
    (onTile L (k0_part16 (F := F)) lanes (csum h 0) (csum h 1) (csum h 2) (csum h 3) (cum (csum h) 11) (sel K1 (csum h) 11) (base K1 (csum h) 11) (cum (csum h) 12) (cmpi .slt (cum (csum h) 11) K1) (cmpi .sge (cum (csum h) 12) K1))
    ⟨sel K1 (csum h) 16, base K1 (csum h) 16, kt2 K1 h, wb K1 h⟩ iprop(hPts d L h ∗ R) := by
  rw [k0_part16_eq_skeleton]; unfold k0_part16_skel
  exact .pure' rfl

theorem run_part17 : Runs (F := F) d L iprop(hPts d L h ∗ R)
    (onTile L (k0_part17 (F := F)) zero16 (kt2 K1 h) (wb K1 h))
    ⟨cum (fs K1 h) 4, sel (kt2 K1 h) (fs K1 h) 4, base (kt2 K1 h) (fs K1 h) 4, cum (fs K1 h) 5, cmpi .slt (cum (fs K1 h) 4) (kt2 K1 h), cmpi .sge (cum (fs K1 h) 5) (kt2 K1 h)⟩ iprop(hPts d L h ∗ R) := by
  rw [k0_part17_eq_skeleton]; unfold k0_part17_skel
  refine .bind_assume (chk_ok K1 h 15 (by decide)) (.bind_gath ?_)
  refine .bind_assume (chk_ok K1 h 14 (by decide)) (.bind_gath ?_)
  refine .bind_assume (chk_ok K1 h 13 (by decide)) (.bind_gath ?_)
  refine .bind_assume (chk_ok K1 h 12 (by decide)) (.bind_gath ?_)
  refine .bind_assume (chk_ok K1 h 11 (by decide)) (.bind_gath ?_)
  exact .pure' rfl

theorem run_part18 : Runs (F := F) d L iprop(hPts d L h ∗ R)
    (onTile L (k0_part18 (F := F)) (kt2 K1 h) (wb K1 h) (cum (fs K1 h) 4) (sel (kt2 K1 h) (fs K1 h) 4) (base (kt2 K1 h) (fs K1 h) 4) (cum (fs K1 h) 5) (cmpi .slt (cum (fs K1 h) 4) (kt2 K1 h)) (cmpi .sge (cum (fs K1 h) 5) (kt2 K1 h)))
    ⟨cum (fs K1 h) 9, sel (kt2 K1 h) (fs K1 h) 9, base (kt2 K1 h) (fs K1 h) 9, addi (wb K1 h) (broadcast S16 (BitVec.ofNat 32 (16 * 6)))⟩ iprop(hPts d L h ∗ R) := by
  rw [k0_part18_eq_skeleton]; unfold k0_part18_skel
  refine .bind_assume (chk_ok K1 h 10 (by decide)) (.bind_gath ?_)
  refine .bind_assume (chk_ok K1 h 9 (by decide)) (.bind_gath ?_)
  refine .bind_assume (chk_ok K1 h 8 (by decide)) (.bind_gath ?_)
  refine .bind_assume (chk_ok K1 h 7 (by decide)) (.bind_gath ?_)
  exact .pure' rfl

theorem run_part19 : Runs (F := F) d L iprop(hPts d L h ∗ R)
    (onTile L (k0_part19 (F := F)) (kt2 K1 h) (wb K1 h) (cum (fs K1 h) 9) (sel (kt2 K1 h) (fs K1 h) 9) (base (kt2 K1 h) (fs K1 h) 9) (addi (wb K1 h) (broadcast S16 (BitVec.ofNat 32 (16 * 6)))))
    ⟨cum (fs K1 h) 13, sel (kt2 K1 h) (fs K1 h) 13, base (kt2 K1 h) (fs K1 h) 13, cum (fs K1 h) 14, newly (kt2 K1 h) (fs K1 h) 13, broadcast S16 2#32⟩ iprop(hPts d L h ∗ R) := by
  rw [k0_part19_eq_skeleton]; unfold k0_part19_skel
  refine .bind_assume (chk_ok K1 h 6 (by decide)) (.bind_gath ?_)
  refine .bind_assume (chk_ok K1 h 5 (by decide)) (.bind_gath ?_)
  refine .bind_assume (chk_ok K1 h 4 (by decide)) (.bind_gath ?_)
  refine .bind_assume (chk_ok K1 h 3 (by decide)) (.bind_gath ?_)
  refine .bind_assume (chk_ok K1 h 2 (by decide)) (.bind_gath ?_)
  exact .pure' rfl

/-! ## The second scan -/

theorem run_part21 : Runs (F := F) d L iprop(hPts d L h ∗ R)
    (onTile L (k0_part21 (F := F)) (psum h 0 2))
    ⟨csum h 0, psum h 256 6, ld h 368⟩ iprop(hPts d L h ∗ R) := by
  rw [k0_part21_eq_skeleton]; unfold k0_part21_skel
  iterate 21 refine .bind_ld ?_
  exact .pure' rfl

theorem run_part22 : Runs (F := F) d L iprop(hPts d L h ∗ R)
    (onTile L (k0_part22 (F := F)) (psum h 256 6) (ld h 368))
    ⟨csum h 1, psum h 512 11⟩ iprop(hPts d L h ∗ R) := by
  rw [k0_part22_eq_skeleton]; unfold k0_part22_skel
  iterate 20 refine .bind_ld ?_
  exact .pure' rfl

theorem run_part23 : Runs (F := F) d L iprop(hPts d L h ∗ R)
    (onTile L (k0_part23 (F := F)) (psum h 512 11))
    ⟨csum h 2, csum h 3⟩ iprop(hPts d L h ∗ R) := by
  rw [k0_part23_eq_skeleton]; unfold k0_part23_skel
  iterate 20 refine .bind_ld ?_
  exact .pure' rfl

theorem run_part24 : Runs (F := F) d L iprop(hPts d L h ∗ R)
    (onTile L (k0_part24 (F := F)) )
    ⟨csum h 4, psum h 1280 4⟩ iprop(hPts d L h ∗ R) := by
  rw [k0_part24_eq_skeleton]; unfold k0_part24_skel
  iterate 21 refine .bind_ld ?_
  exact .pure' rfl

theorem run_part25 : Runs (F := F) d L iprop(hPts d L h ∗ R)
    (onTile L (k0_part25 (F := F)) (psum h 1280 4))
    ⟨csum h 5, psum h 1536 8⟩ iprop(hPts d L h ∗ R) := by
  rw [k0_part25_eq_skeleton]; unfold k0_part25_skel
  iterate 20 refine .bind_ld ?_
  exact .pure' rfl

theorem run_part26 : Runs (F := F) d L iprop(hPts d L h ∗ R)
    (onTile L (k0_part26 (F := F)) (psum h 1536 8))
    ⟨csum h 6, psum h 1792 12, ld h 2000⟩ iprop(hPts d L h ∗ R) := by
  rw [k0_part26_eq_skeleton]; unfold k0_part26_skel
  iterate 21 refine .bind_ld ?_
  exact .pure' rfl

theorem run_part27 : Runs (F := F) d L iprop(hPts d L h ∗ R)
    (onTile L (k0_part27 (F := F)) (psum h 1792 12) (ld h 2000))
    ⟨csum h 7, csum h 8, psum h 2304 1⟩ iprop(hPts d L h ∗ R) := by
  rw [k0_part27_eq_skeleton]; unfold k0_part27_skel
  iterate 20 refine .bind_ld ?_
  exact .pure' rfl

theorem run_part28 : Runs (F := F) d L iprop(hPts d L h ∗ R)
    (onTile L (k0_part28 (F := F)) (psum h 2304 1))
    ⟨csum h 9, psum h 2560 5, ld h 2656⟩ iprop(hPts d L h ∗ R) := by
  rw [k0_part28_eq_skeleton]; unfold k0_part28_skel
  iterate 21 refine .bind_ld ?_
  exact .pure' rfl

theorem run_part29 : Runs (F := F) d L iprop(hPts d L h ∗ R)
    (onTile L (k0_part29 (F := F)) (psum h 2560 5) (ld h 2656))
    ⟨csum h 10, psum h 2816 10⟩ iprop(hPts d L h ∗ R) := by
  rw [k0_part29_eq_skeleton]; unfold k0_part29_skel
  iterate 20 refine .bind_ld ?_
  exact .pure' rfl

theorem run_part30 : Runs (F := F) d L iprop(hPts d L h ∗ R)
    (onTile L (k0_part30 (F := F)) (psum h 2816 10))
    ⟨csum h 11, psum h 3072 14⟩ iprop(hPts d L h ∗ R) := by
  rw [k0_part30_eq_skeleton]; unfold k0_part30_skel
  iterate 20 refine .bind_ld ?_
  exact .pure' rfl

theorem run_part31 : Runs (F := F) d L iprop(hPts d L h ∗ R)
    (onTile L (k0_part31 (F := F)) (psum h 3072 14))
    ⟨csum h 12, csum h 13, psum h 3584 3⟩ iprop(hPts d L h ∗ R) := by
  rw [k0_part31_eq_skeleton]; unfold k0_part31_skel
  iterate 21 refine .bind_ld ?_
  exact .pure' rfl

theorem run_part32 : Runs (F := F) d L iprop(hPts d L h ∗ R)
    (onTile L (k0_part32 (F := F)) (psum h 3584 3))
    ⟨csum h 14, psum h 3840 7⟩ iprop(hPts d L h ∗ R) := by
  rw [k0_part32_eq_skeleton]; unfold k0_part32_skel
  iterate 20 refine .bind_ld ?_
  exact .pure' rfl

theorem run_part33 : Runs (F := F) d L iprop(hPts d L h ∗ R)
    (onTile L (k0_part33 (F := F)) zero16 kt (csum h 11) (csum h 12) (csum h 13) (csum h 14) (psum h 3840 7))
    ⟨cum (csum h) 4, sel kt (csum h) 4, base kt (csum h) 4, cum (csum h) 5, newly kt (csum h) 4, 11#32⟩ iprop(hPts d L h ∗ R) := by
  rw [k0_part33_eq_skeleton]; unfold k0_part33_skel
  iterate 8 refine .bind_ld ?_
  exact .pure' rfl

theorem run_part34 : Runs (F := F) d L iprop(hPts d L h ∗ R)
    (onTile L (k0_part34 (F := F)) kt (csum h 3) (csum h 4) (csum h 5) (csum h 6) (csum h 7) (csum h 8) (csum h 9) (csum h 10) (cum (csum h) 4) (sel kt (csum h) 4) (base kt (csum h) 4) (cum (csum h) 5) (newly kt (csum h) 4) 11#32)
    ⟨cum (csum h) 12, sel kt (csum h) 12, base kt (csum h) 12, cum (csum h) 13⟩ iprop(hPts d L h ∗ R) := by
  rw [k0_part34_eq_skeleton]; unfold k0_part34_skel
  exact .pure' rfl

theorem run_part35 : Runs (F := F) d L iprop(hPts d L h ∗ R)
    (onTile L (k0_part35 (F := F)) lanes zero16 kt (csum h 0) (csum h 1) (csum h 2) (cum (csum h) 12) (sel kt (csum h) 12) (base kt (csum h) 12) (cum (csum h) 13))
    ⟨sel kt (csum h) 16, base kt (csum h) 16, kt2 kt h, wb kt h, cum (fs kt h) 1, sel (kt2 kt h) (fs kt h) 1, base (kt2 kt h) (fs kt h) 1, cum (fs kt h) 2, newly (kt2 kt h) (fs kt h) 1, broadcast S16 14#32⟩ iprop(hPts d L h ∗ R) := by
  rw [k0_part35_eq_skeleton]; unfold k0_part35_skel
  refine .bind_assume (chk_ok kt h 15 (by decide)) (.bind_gath ?_)
  refine .bind_assume (chk_ok kt h 14 (by decide)) (.bind_gath ?_)
  exact .pure' rfl

theorem run_part36 : Runs (F := F) d L iprop(hPts d L h ∗ R)
    (onTile L (k0_part36 (F := F)) (kt2 kt h) (wb kt h) (cum (fs kt h) 1) (sel (kt2 kt h) (fs kt h) 1) (base (kt2 kt h) (fs kt h) 1) (cum (fs kt h) 2) (newly (kt2 kt h) (fs kt h) 1) (broadcast S16 14#32))
    ⟨cum (fs kt h) 6, sel (kt2 kt h) (fs kt h) 6, base (kt2 kt h) (fs kt h) 6, cum (fs kt h) 7⟩ iprop(hPts d L h ∗ R) := by
  rw [k0_part36_eq_skeleton]; unfold k0_part36_skel
  refine .bind_assume (chk_ok kt h 13 (by decide)) (.bind_gath ?_)
  refine .bind_assume (chk_ok kt h 12 (by decide)) (.bind_gath ?_)
  refine .bind_assume (chk_ok kt h 11 (by decide)) (.bind_gath ?_)
  refine .bind_assume (chk_ok kt h 10 (by decide)) (.bind_gath ?_)
  refine .bind_assume (chk_ok kt h 9 (by decide)) (.bind_gath ?_)
  exact .pure' rfl

theorem run_part37 : Runs (F := F) d L iprop(hPts d L h ∗ R)
    (onTile L (k0_part37 (F := F)) (kt2 kt h) (wb kt h) (cum (fs kt h) 6) (sel (kt2 kt h) (fs kt h) 6) (base (kt2 kt h) (fs kt h) 6) (cum (fs kt h) 7))
    ⟨cum (fs kt h) 11, sel (kt2 kt h) (fs kt h) 11, base (kt2 kt h) (fs kt h) 11, 64#32⟩ iprop(hPts d L h ∗ R) := by
  rw [k0_part37_eq_skeleton]; unfold k0_part37_skel
  refine .bind_assume (chk_ok kt h 8 (by decide)) (.bind_gath ?_)
  refine .bind_assume (chk_ok kt h 7 (by decide)) (.bind_gath ?_)
  refine .bind_assume (chk_ok kt h 6 (by decide)) (.bind_gath ?_)
  refine .bind_assume (chk_ok kt h 5 (by decide)) (.bind_gath ?_)
  exact .pure' rfl

theorem run_part38 : Runs (F := F) d L iprop(hPts d L h ∗ R)
    (onTile L (k0_part38 (F := F)) (kt2 kt h) (wb kt h) (cum (fs kt h) 11) (sel (kt2 kt h) (fs kt h) 11) (base (kt2 kt h) (fs kt h) 11) 64#32)
    ⟨cum (fs kt h) 15, sel (kt2 kt h) (fs kt h) 15, base (kt2 kt h) (fs kt h) 15, newly (kt2 kt h) (fs kt h) 15⟩ iprop(hPts d L h ∗ R) := by
  rw [k0_part38_eq_skeleton]; unfold k0_part38_skel
  refine .bind_assume (chk_ok kt h 4 (by decide)) (.bind_gath ?_)
  refine .bind_assume (chk_ok kt h 3 (by decide)) (.bind_gath ?_)
  refine .bind_assume (chk_ok kt h 2 (by decide)) (.bind_gath ?_)
  refine .bind_assume (chk_ok kt h 1 (by decide)) (.bind_gath ?_)
  refine .bind_assume (chk_ok kt h 0 (by decide)) (.bind_gath ?_)
  exact .pure' rfl

end Cert.Proof.Thr

end
-- ==== Proof.Loops.lean ====
/-
  The tile's inner loops: the histogram is cleared, the keys of a column group are stored and counted by their top
  byte, and the keys of one top byte are counted by their second byte.
-/
module

public import proofs.«01_k».proof.Proof.Keys
public import proofs.«01_k».proof.Proof.ScanA

@[expose] public section

noncomputable section

namespace Cert.Proof.Thr

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

variable {d : Dev nD} {L : grid0.Coords} {A B R : sProp (MT nD τ sig (HIx 1) (Elt F) ℕ UU ℕ)} {h : S4096.Idx → BitVec 32}

section Steps

theorem Runs.cast {α : Type} {p : Prog (TpuEff nD τ sig (Elt F) Λ₀ (.scVector (cV L) (jV L))) α} {a b : α} (hp : Runs (F := F) d L A p a B)
    (e : a = b) : Runs (F := F) d L A p b B := e ▸ hp

theorem Runs.post {α : Type} {p : Prog (TpuEff nD τ sig (Elt F) Λ₀ (.scVector (cV L) (jV L))) α} {a : α} (hp : Runs (F := F) d L A p a B)
    {B' : sProp 𝕄} (e : B = B') : Runs (F := F) d L A p a B' := e ▸ hp

theorem Runs.comm {α : Type} {p : Prog (TpuEff nD τ sig (Elt F) Λ₀ (.scVector (cV L) (jV L))) α} {a : α} {A' B' : sProp 𝕄}
    (hp : Runs (F := F) d L iprop(A ∗ A') p a iprop(B ∗ B')) : Runs (F := F) d L iprop(A' ∗ A) p a iprop(B' ∗ B) :=
  hp.conseq sep_comm.1 sep_comm.1

theorem Runs.at2 {α : Type} {p : Prog (TpuEff nD τ sig (Elt F) Λ₀ (.scVector (cV L) (jV L))) α} {a : α} {A₁ : sProp 𝕄}
    (hp : Runs (F := F) d L A p a B) : Runs (F := F) d L iprop(A₁ ∗ A ∗ R) p a iprop(A₁ ∗ B ∗ R) := .comm (.framed (.framed hp))

theorem Runs.at3 {α : Type} {p : Prog (TpuEff nD τ sig (Elt F) Λ₀ (.scVector (cV L) (jV L))) α} {a : α} {A₁ A₂ : sProp 𝕄}
    (hp : Runs (F := F) d L A p a B) : Runs (F := F) d L iprop(A₁ ∗ A₂ ∗ A ∗ R) p a iprop(A₁ ∗ A₂ ∗ B ∗ R) := .comm (.framed (.at2 hp))

/-- A load from a buffer held whole. -/
theorem Runs.load {s : Shape} {e : EltTy} {m : Memref sig .scVector .vmem s e} {r : LoadRect s} {hl : m.view.LoadsAt r}
    {f : Buf (Elt F) (m.view.loc (tile d L))} :
    Runs (F := F) d L (m.view.loc (tile d L) ↦{fullShare} f) (Prog.lift (.load m r hl)) (m.view.readAt (Elt F) r f)
      (m.view.loc (tile d L) ↦{fullShare} f) := by
  intro Q
  iintro H HQ
  simp only [Prog.lift]
  iapply (wp_load 𝒱₀ (tile d L) none Set.univ (m := m) (S := Finset.univ) (Finset.subset_univ _)) $$ H
  iintro H
  rw [wp_ret]
  imodintro
  iapply HQ; iexact H

/-- A store into a buffer held whole. -/
theorem Runs.store {s : Shape} {e : EltTy} {m : Memref sig .scVector .vmem s e} {r : Rect s} {w : r.shape.Idx → Elt F e}
    {hx : (m.access r).Stores Finset.univ} {hm : Finset.univ = Finset.univ ∨ ∀ a, r.stride a = 1}
    {f f' : Buf (Elt F) (m.view.loc (tile d L))} (e : (m.access r).write (Elt F) f w Finset.univ = f') :
    Runs (F := F) d L (m.view.loc (tile d L) ↦{fullShare} f) (Prog.lift (.store m r w Finset.univ hx hm)) ⟨⟩
      (m.view.loc (tile d L) ↦{fullShare} f') := by
  intro Q
  iintro H HQ
  simp only [Prog.lift]
  iapply (wp_store 𝒱₀ (tile d L) none Set.univ (m := m) (r := r) (w := w) (Mk := Finset.univ) (hx := hx) (hm := hm) (f := f) (S := Finset.univ) (Finset.subset_univ _)) $$ H
  iintro H
  rw [wp_ret]
  imodintro
  iapply HQ; rw [← e]; iexact H

/-- A scatter into the histogram. -/
theorem Runs.scatter {w : IVec S16 32} {mask : IVec S16 1} {v : IVec S16 32} {hi} {hs} {h' : S4096.Idx → BitVec 32}
    (e : storeIdx (F := F) (s := S4096) (e := .i32) (d := ![16]) h ![w] v mask true hi = h') :
    Runs (F := F) d L (hPts d L h) (SparseCore.vectorStoreIdx (F := F) (e := .i32) hM ![w] v mask true hi hs) ⟨⟩ (hPts d L h') := by
  intro Q
  iintro H HQ
  rw [← bind_pure (SparseCore.vectorStoreIdx _ _ _ _ _ _ _)]
  have hset : ((hM).access (.whole S4096)).set = Finset.univ := Memref.set_access_whole _
  have hw := SparseCore.wp_vectorStoreIdx (F := F) (defs := defs₀ (F := F)) 𝒱₀ (tile d L) none Set.univ (base := hM) (idxs := ![w]) (v := v) (mask := mask) (add := true)
    (h := hi) (hs := hs) (k := fun x => Pure.pure x) (Q := Q) (f := (h : Buf (Elt F) ((hM).view.loc (tile d L))))
  rw [hset] at hw
  iapply hw $$ H
  iintro H
  rw [Prog.pure_eq_ret, wp_ret]
  imodintro
  iapply HQ
  rw [← e]
  have e2 : ((hM).access (.whole S4096)).write (Elt F) (h : Buf (Elt F) ((hM).view.loc (tile d L)))
      (storeIdx (((hM).access (.whole S4096)).read (Elt F) (h : Buf (Elt F) ((hM).view.loc (tile d L)))) ![w] v mask true hi) Finset.univ
        = storeIdx (F := F) (s := S4096) (e := .i32) (d := ![16]) h ![w] v mask true hi := by
    rw [read_whole_hM]
    exact Memref.write_access_whole_univ (Elt F) _ _ _
  rw [e2]
  iexact H

end Steps

/-! ## The loops -/

theorem read_hM (f : S4096.Idx → BitVec 32) : (hM).view.read (Elt F) f = f := View.read_whole (Val := Elt F) cc0_scratch3 f
theorem read_kM (f : S12288.Idx → BitVec 32) : (kM).view.read (Elt F) f = f := View.read_whole (Val := Elt F) cc0_scratch1 f

variable (d L) in
/-- The key buffer at the contents `k`, and the fetched block at `b`. -/
abbrev kPts (k : S12288.Idx → BitVec 32) : sProp 𝕄 := (kM).view.loc (tile d L) ↦{fullShare} (k : Buf (Elt F) ((kM).view.loc (tile d L)))
variable (d L) in
abbrev bPts (b : S768x128.Idx → Elt F .f32) : sProp 𝕄 := (bM).view.loc (tile d L) ↦{fullShare} (b : Buf (Elt F) ((bM).view.loc (tile d L)))

theorem write_clr {n : ℕ} {off : Fin 1 → ℕ} {inb} (ho : off = ![16 * n]) :
    ((hM).access (Rect.unit (s := S4096) off S16.size inb)).write (Elt F) (clr h n) zero16 Finset.univ
      = clr h (n + 1) := by
  rw [← read_hM (F := F) (((hM).access (Rect.unit (s := S4096) off S16.size inb)).write (Elt F) _ _ _)]
  funext y
  rw [read_write_row (F := F) hM _ off _ ho inb, read_hM]
  unfold clr
  split <;> split <;> first | rfl | omega | exact (if_neg (by omega)).symm | exact (if_pos (by omega)).symm

/-- Clearing one row of sixteen words. -/
theorem run_clr {n : ℕ} {off : Fin 1 → ℕ} {inb} {hl} {hx} {hm} (ho : off = ![16 * n]) :
    Runs (F := F) d L iprop(hPts d L (clr h n) ∗ R)
      ((do
        let _v : Vec F S16 .i32 ← Prog.lift (.load hM (Rect.unit (s := S4096) off S16.size inb).toLoadRect hl)
        Prog.lift (.store hM (Rect.unit (s := S4096) off S16.size inb) zero16 Finset.univ hx hm)
        pure ⟨⟩ : Prog (TpuEff nD τ sig (Elt F) Λ₀ (.scVector (cV L) (jV L))) Unit)) ()
      iprop(hPts d L (clr h (n + 1)) ∗ R) :=
  .bind (Runs.framed .load) (.bind (Runs.framed (.store (write_clr ho))) (.pure _))

theorem Runs.loop' {l : Scf.Loop 32} {hok : l.OK} {σ : Type} (s : ℕ → σ)
    {body : Fin l.trips → σ → Prog (TpuEff nD τ sig (Elt F) Λ₀ (.scVector (cV L) (jV L))) σ} (I : ℕ → sProp 𝕄) {N : ℕ} (hN : l.trips = N)
    (hA : A = I 0) (hB : I N = B) (hbody : ∀ k : Fin l.trips, Runs (F := F) d L (I k.val) (body k (s k.val)) (s (k.val + 1)) (I (k.val + 1))) :
    Runs (F := F) d L A (Scf.Loop.for l hok (s 0) body) (s N) B := by
  subst hN hA hB
  exact .loop l hok s body I hbody

theorem run_loop1 : Runs (F := F) d L iprop(hPts d L h ∗ R) (Scf.Loop.for k0_t1_loop k0_t1_ok ⟨⟩ (onTile L (k0_t1_body (F := F)))) ()
    iprop(hPts d L (fun _ => 0#32) ∗ R) :=
  .loop' (fun _ => ()) (fun n => iprop(hPts d L (clr h n) ∗ R)) (N := 256) rfl (by rw [clr_zero]) (by rw [clr_all]) fun k => run_clr (k0_off1_eq k)

section Args
variable {v656 v657 v659 v662 v786 v791 v792 v796 v800 : IVec S16 32} {v799 : IVec S16 1}

theorem run_loop5 : Runs (F := F) d L iprop(hPts d L h ∗ R)
    (Scf.Loop.for k0_t5_loop k0_t5_ok ⟨⟩
      (onTile L (k0_t5_body (F := F)) lanes k0_pay1 zero16 v656 v657 v659 v662 v786 v791 v792 v796 v799 v800)) ()
    iprop(hPts d L (fun _ => 0#32) ∗ R) :=
  .loop' (fun _ => ()) (fun n => iprop(hPts d L (clr h n) ∗ R)) (N := 256) rfl (by rw [clr_zero]) (by rw [clr_all]) fun k => run_clr (k0_off5_eq k)

end Args

theorem write_kbuf {ks : ℕ → IVec S16 32} {k0 : S12288.Idx → BitVec 32} {n : ℕ} {off : Fin 1 → ℕ} {inb} (ho : off = ![16 * n]) {w : IVec S16 32}
    (hw : w = ks n) : ((kM).access (Rect.unit (s := S12288) off S16.size inb)).write (Elt F) (kbuf ks k0 n) w Finset.univ = kbuf ks k0 (n + 1) := by
  subst hw
  rw [← read_kM (F := F) (((kM).access (Rect.unit (s := S12288) off S16.size inb)).write (Elt F) _ _ _)]
  funext y
  rw [read_write_row (F := F) kM _ off _ ho inb, read_kM]
  unfold kbuf
  split
  · next hy =>
    rw [if_pos (by omega)]
    have e1 : (y 0).val / 16 = n := by omega
    rw [e1]
    exact congrArg (ks n) (lane_congr (by omega))
  · next hy =>
    split <;> first | exact (if_neg (by omega)).symm | exact (if_pos (by omega)).symm

theorem readAt_bM (b : S768x128.Idx → Elt F .f32) (g c : ℕ) (hg : g < 8) (hc : c < 768) (off : Fin 2 → ℕ) (ho : off = ![c, 16 * g]) (inb) (l : S16.Idx) :
    (bM).view.readAt (Elt F) (Rect.unit (s := S768x128) off S1x16.size inb).toLoadRect b (rix l) = b (bix c (16 * g + (l 0).val)) := by
  subst ho
  have h2 : (l 0).val < 16 := (l 0).isLt
  rw [View.readAt_apply]
  refine (congrFun (View.read_whole (Val := Elt F) cc0_scratch0 b) _).trans (congrArg b ?_)
  funext a; apply Fin.ext
  rw [LoadRect.idx_apply]
  match a with
  | 0 => show c + 1 * 0 = c % 768; omega
  | 1 => show 16 * g + 1 * (l 0).val = (16 * g + (l 0).val) % 128; omega

theorem pay4_keys (b : S768x128.Idx → Elt F .f32) (g c : ℕ) (hg : g < 8) (hc : c < 768) (off : Fin 2 → ℕ) (ho : off = ![c, 16 * g]) (inb) :
    k0_pay4 ((bM).view.readAt (Elt F) (Rect.unit (s := S768x128) off S1x16.size inb).toLoadRect b) = keys b g c := by
  funext l
  rw [pay4_eq, readAt_bM b g c hg hc off ho inb l]
  rfl

theorem lt_4096 {w : IVec S16 32} {b : S16.Idx → ℕ} (hw : ∀ l, (w l).toNat = 16 * b l + (l 0).val) (hb : ∀ l, b l < 256) :
    ∀ a x, ((![w] : Fin 1 → IVec S16 32) a x).toNat < S4096.size a := by
  intro a x
  obtain rfl : a = 0 := Subsingleton.elim _ _
  show (w x).toNat < 4096
  have h1 := hw x
  have h2 := hb x
  have h3 : (x 0).val < 16 := (x 0).isLt
  omega

theorem kix_lt (n : ℕ) (a : Fin 1) : n % 12288 < S12288.size a := by
  rw [show S12288.size a = 12288 from Subsingleton.elim 0 a ▸ rfl]
  exact Nat.mod_lt _ (by decide)

/-- Word `n` of the key buffer. -/
def kix (n : ℕ) : S12288.Idx := fun a => ⟨n % 12288, kix_lt n a⟩

/-- The key buffer holding the keys of every row. -/
def kfull (ks : ℕ → IVec S16 32) : S12288.Idx → BitVec 32 := fun i => ks ((i 0).val / 16) (lane (i 0).val)

theorem kbuf_all (ks : ℕ → IVec S16 32) (k0 : S12288.Idx → BitVec 32) : kbuf ks k0 768 = kfull ks := by
  funext i
  have : (i 0).val < 12288 := (i 0).isLt
  exact if_pos (by omega)

theorem readAt_kfull {ks : ℕ → IVec S16 32} {c : ℕ} {off : Fin 1 → ℕ} {inb} (ho : off = ![16 * c]) (hc : c < 768) :
    (kM).view.readAt (Elt F) (Rect.unit (s := S12288) off S16.size inb).toLoadRect (kfull ks) = ks c := by
  funext l
  have h2 : (l 0).val < 16 := (l 0).isLt
  rw [readAt_row (F := F) kM _ off _ ho inb l (kix (16 * c + (l 0).val)) (Nat.mod_eq_of_lt (by omega)), read_kM]
  unfold kfull
  rw [show (kix (16 * c + (l 0).val) 0).val = 16 * c + (l 0).val from Nat.mod_eq_of_lt (by omega)]
  rw [show (16 * c + (l 0).val) / 16 = c by omega]
  refine congrArg (ks c) ((lane_congr ?_).trans (lane_self l))
  omega

theorem mask_iff (k t : IVec S16 32) (l : S16.Idx) :
    (cmpi .eq (shrsi k (broadcast S16 24#32)) t) l = 1 ↔ ((k l).sshiftRight 24 == t l) = true := by
  show BitVec.ofBool (IntOp.shrsi .vector (k l) (BitVec.ofNat 32 24) == t l) = 1 ↔ _
  rw [shrsi_const _ _ (by decide)]
  cases ((k l).sshiftRight 24 == t l) <;> decide

theorem run_loop4 {b : S768x128.Idx → Elt F .f32} {k0 : S12288.Idx → BitVec 32} {g : Fin k0_t3_loop.trips} :
    Runs (F := F) d L iprop(hPts d L (fun _ => 0#32) ∗ kPts d L k0 ∗ bPts d L b ∗ R)
      (Scf.Loop.for k0_t4_loop k0_t4_ok ⟨⟩ (onTile L (k0_t4_body (F := F)) lanes k0_pay1 0#32 1#32 g)) ()
      iprop(hPts d L (hist1 (keys b g.val) 768) ∗ kPts d L (kfull (keys b g.val)) ∗ bPts d L b ∗ R) := by
  refine .loop' (fun _ => ()) (fun n => iprop(hPts d L (hist1 (keys b g.val) n) ∗ kPts d L (kbuf (keys b g.val) k0 n) ∗ bPts d L b ∗ R)) (N := 768) rfl
    (by rw [kbuf_zero, hist1, histo_zero]) (by rw [kbuf_all]) fun c => ?_
  have hg : g.val < 8 := g.isLt
  have hc : c.val < 768 := c.isLt
  have hk := pay4_keys b g.val c.val hg hc _ (k0_off3_eq g c) (k0_off3_inb g c)
  refine .bind (Runs.at3 .load) ?_
  refine .bind (Runs.at2 .load) ?_
  refine .bind (Runs.at2 (.store (write_kbuf (k0_off4_eq c) hk))) ?_
  have hw : ∀ l, (k0_pay5 lanes ((bM).view.readAt (Elt F) (Rect.unit (s := S768x128) (k0_off3 g c) S1x16.size (k0_off3_inb g c)).toLoadRect b) l).toNat
      = 16 * top (keys b g.val c.val l) + (l 0).val := fun l => by rw [pay5_toNat, hk]
  refine .bind_assume (lt_4096 hw fun l => top_lt _) ?_
  refine .bind (Runs.framed (.scatter (h' := hist1 (keys b g.val) (c.val + 1)) ?_)) (.pure _)
  exact storeIdx_histo _ _ _ _ _ hw fun l => by simp

section Args
variable {v656 v657 v659 v662 v786 v791 v792 v796 v800 : IVec S16 32} {v799 : IVec S16 1} {v805 v815 : IVec S16 32}

theorem run_loop6 {ks : ℕ → IVec S16 32} {t : IVec S16 32} (ht : k0_pay134 (F := F) v656 v659 v791 v796 v799 v800 v805 v815 = t) :
    Runs (F := F) d L iprop(hPts d L (fun _ => 0#32) ∗ kPts d L (kfull ks) ∗ R)
      (Scf.Loop.for k0_t6_loop k0_t6_ok ⟨⟩
        (onTile L (k0_t6_body (F := F)) lanes k0_pay1 zero16 v656 v657 v659 v662 v786 v791 v792 v796 v799 v800 v805 v815)) ()
      iprop(hPts d L (hist2 ks t 768) ∗ kPts d L (kfull ks) ∗ R) := by
  refine .loop' (fun _ => ()) (fun n => iprop(hPts d L (hist2 ks t n) ∗ kPts d L (kfull ks) ∗ R)) (N := 768) rfl
    (by rw [hist2, histo_zero]) rfl fun c => ?_
  refine .bind (Runs.at2 (.cast .load (readAt_kfull (k0_off6_eq c) c.isLt))) ?_
  have hw : ∀ l, (k0_pay137 (F := F) lanes (ks c.val) l).toNat = 16 * snd (ks c.val l) + (l 0).val := fun l => pay137_toNat _ l
  refine .bind_assume (lt_4096 hw fun l => snd_lt _) ?_
  refine .bind (Runs.framed (.scatter (h' := hist2 ks t (c.val + 1)) ?_)) (.pure _)
  refine storeIdx_histo _ _ _ _ _ hw fun l => ?_
  rw [← ht]
  exact mask_iff ..

end Args

theorem run_loop7 {c0 c1 : BitVec 32} {g : Fin k0_t3_loop.trips} : Runs (F := F) d L iprop(hPts d L h ∗ R)
    (Scf.Loop.for k0_t7_loop k0_t7_ok ⟨⟩ (onTile L (k0_t7_body (F := F)) lanes k0_pay1 zero16 c0 c1 g)) ()
    iprop(hPts d L (fun _ => 0#32) ∗ R) :=
  .loop' (fun _ => ()) (fun n => iprop(hPts d L (clr h n) ∗ R)) (N := 256) rfl (by rw [clr_zero]) (by rw [clr_all]) fun k => run_clr (k0_off7_eq k)

end Cert.Proof.Thr

end
-- ==== Proof.Group.lean ====
/-
  One column group of a task: sixteen columns' keys are stored and counted, the histogram is scanned twice, and the
  sixteen thresholds are put into the row of thresholds. All eight groups fill that row.
-/
module

public import proofs.«01_k».proof.Proof.Loops

@[expose] public section

noncomputable section

namespace Cert.Proof.Thr

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## What a group computes -/

/-- The top byte of each lane's threshold, as a signed number. -/
def topSel (ks : ℕ → IVec S16 32) : IVec S16 32 := subi (scanSel K1 (hist1 ks 768)) (broadcast S16 128#32)
/-- The rank left among the keys of that top byte, and the histogram of their second bytes. -/
def rank2 (ks : ℕ → IVec S16 32) : IVec S16 32 := subi K1 (scanBase K1 (hist1 ks 768))
def h2 (ks : ℕ → IVec S16 32) : S4096.Idx → BitVec 32 := hist2 ks (topSel ks) 768
/-- The threshold's key: its two upper bytes, over zeros. -/
def keyT (ks : ℕ → IVec S16 32) : IVec S16 32 :=
  shli (ori (shli (topSel ks) (broadcast S16 8#32)) (scanSel (rank2 ks) (h2 ks))) (broadcast S16 16#32)

/-- The row of thresholds after the first `n` groups. -/
def tbuf (b : S768x128.Idx → Elt F .f32) (t0 : S128.Idx → Elt F .f32) (n : ℕ) : S128.Idx → Elt F .f32 :=
  fun i => if (i 0).val < 16 * n then FloatOps.ofBits .f32 (keyOf (keyT (keys b ((i 0).val / 16)) (lane (i 0).val))) else t0 i

/-- The full row of thresholds. -/
def tfull (b : S768x128.Idx → Elt F .f32) : S128.Idx → Elt F .f32 :=
  fun i => FloatOps.ofBits .f32 (keyOf (keyT (keys b ((i 0).val / 16)) (lane (i 0).val)))

theorem tbuf_zero (b : S768x128.Idx → Elt F .f32) (t0 : S128.Idx → Elt F .f32) : tbuf b t0 0 = t0 := by
  funext i; exact if_neg (by omega)

theorem tbuf_all (b : S768x128.Idx → Elt F .f32) (t0 : S128.Idx → Elt F .f32) : tbuf b t0 8 = tfull b := by
  funext i
  have : (i 0).val < 128 := (i 0).isLt
  exact if_pos (by omega)

theorem pay3_eq (v : IVec S16 32) (l : S16.Idx) : k0_pay3 (F := F) v l = FloatOps.ofBits .f32 (keyOf (v l)) := by
  show FloatOps.ofBits .f32 (IntOp.xori _ (IntOp.andi _ (IntOp.shrsi .vector _ (BitVec.ofNat 32 31)))) = _
  rw [shrsi_const _ _ (by decide)]
  rfl

/-! ## The group's program -/

variable {d : Dev nD} {L : grid0.Coords} {A B R : sProp (MT nD τ sig (HIx 1) (Elt F) ℕ UU ℕ)} {h : S4096.Idx → BitVec 32}

theorem run_part1 {b : S768x128.Idx → Elt F .f32} {k0 : S12288.Idx → BitVec 32} {g : Fin k0_t3_loop.trips} :
    Runs (F := F) d L iprop(hPts d L (fun _ => 0#32) ∗ kPts d L k0 ∗ bPts d L b ∗ R) (onTile L (k0_part1 (F := F)) lanes k0_pay1 0#32 1#32 g)
      ⟨Scalar.muli (Scf.iv 0#32 1#32 g) 16#32, csum (hist1 (keys b g.val) 768) 0, ld (hist1 (keys b g.val) 768) 256, ld (hist1 (keys b g.val) 768) 272⟩
      iprop(hPts d L (hist1 (keys b g.val) 768) ∗ kPts d L (kfull (keys b g.val)) ∗ bPts d L b ∗ R) := by
  rw [k0_part1_eq_skeleton]; unfold k0_part1_skel
  refine .bind run_loop4 ?_
  iterate 18 refine .bind_ld ?_
  exact .pure' rfl

theorem run_part20 {ks : ℕ → IVec S16 32} (hh : h = hist1 ks 768) :
    Runs (F := F) d L iprop(hPts d L h ∗ kPts d L (kfull ks) ∗ R)
      (onTile L (k0_part20 (F := F)) lanes k0_pay1 zero16 (sel K1 (csum h) 16) (base K1 (csum h) 16) (kt2 K1 h) (wb K1 h)
        (cum (fs K1 h) 13) (sel (kt2 K1 h) (fs K1 h) 13) (base (kt2 K1 h) (fs K1 h) 13) (cum (fs K1 h) 14) (newly (kt2 K1 h) (fs K1 h) 13) (broadcast S16 2#32))
      ⟨topSel ks, rank2 ks, psum (h2 ks) 0 2⟩
      iprop(hPts d L (h2 ks) ∗ kPts d L (kfull ks) ∗ R) := by
  subst hh
  rw [k0_part20_eq_skeleton]; unfold k0_part20_skel
  refine .bind_assume (chk_ok K1 _ 1 (by decide)) (.bind_gath ?_)
  refine .bind_assume (chk_ok K1 _ 0 (by decide)) (.bind_gath ?_)
  refine .bind run_loop5 ?_
  refine .bind (run_loop6 (t := topSel ks) rfl) ?_
  iterate 3 refine .bind_ld ?_
  exact .pure' rfl

theorem run_part39 {b : S768x128.Idx → Elt F .f32} {k0 : S12288.Idx → BitVec 32} {g : Fin k0_t3_loop.trips} :
    Runs (F := F) d L iprop(hPts d L (fun _ => 0#32) ∗ kPts d L k0 ∗ bPts d L b ∗ R)
      (onTile L (k0_part39 (F := F)) lanes k0_pay1 k0_pay2 0#32 1#32 g)
      ⟨Scalar.muli (Scf.iv 0#32 1#32 g) 16#32, keyT (keys b g.val)⟩
      iprop(hPts d L (fun _ => 0#32) ∗ kPts d L (kfull (keys b g.val)) ∗ bPts d L b ∗ R) := by
  rw [k0_part39_eq_skeleton]; unfold k0_part39_skel
  refine .bind run_part1 (.bind run_part2 (.bind run_part3 (.bind run_part4 (.bind run_part5 (.bind run_part6 (.bind run_part7 ?_))))))
  refine .bind run_part8 (.bind run_part9 (.bind run_part10 (.bind run_part11 (.bind run_part12 (.bind run_part13 (.bind run_part14 ?_))))))
  refine .bind run_part15 (.bind run_part16 (.bind run_part17 (.bind run_part18 (.bind run_part19 (.bind (run_part20 rfl) ?_)))))
  refine .bind run_part21 (.bind run_part22 (.bind run_part23 (.bind run_part24 (.bind run_part25 (.bind run_part26 (.bind run_part27 ?_))))))
  refine .bind run_part28 (.bind run_part29 (.bind run_part30 (.bind run_part31 (.bind run_part32 (.bind run_part33 (.bind run_part34 ?_))))))
  refine .bind run_part35 (.bind run_part36 (.bind run_part37 (.bind run_part38 (.bind run_loop7 ?_))))
  exact .pure' rfl

/-! ## All the groups of a task -/

variable (d L) in
/-- The row of thresholds at the contents `t`. -/
abbrev tPts (t : S128.Idx → Elt F .f32) : sProp 𝕄 := (tM).view.loc (tile d L) ↦{fullShare} (t : Buf (Elt F) ((tM).view.loc (tile d L)))

theorem read_tM (f : S128.Idx → Elt F .f32) : (tM).view.read (Elt F) f = f := View.read_whole (Val := Elt F) cc0_scratch2 f

theorem write_tbuf {b : S768x128.Idx → Elt F .f32} {t0 : S128.Idx → Elt F .f32} {n : ℕ} {off : Fin 1 → ℕ} {inb} (ho : off = ![16 * n]) :
    ((tM).access (Rect.unit (s := S128) off S16.size inb)).write (Elt F) (tbuf b t0 n) (k0_pay3 (keyT (keys b n))) Finset.univ = tbuf b t0 (n + 1) := by
  rw [← read_tM (F := F) (((tM).access (Rect.unit (s := S128) off S16.size inb)).write (Elt F) _ _ _)]
  funext y
  rw [read_write_row (F := F) tM _ off _ ho inb, read_tM]
  unfold tbuf
  split
  · next hy =>
    rw [if_pos (by omega)]
    have e1 : (y 0).val / 16 = n := by omega
    rw [e1, pay3_eq]
    exact congrArg (fun l => FloatOps.ofBits .f32 (keyOf (keyT (keys b n) l))) (lane_congr (by omega))
  · next hy =>
    split <;> first | exact (if_neg (by omega)).symm | exact (if_pos (by omega)).symm

/-- The key buffer after `n` groups. -/
def kAfter (b : S768x128.Idx → Elt F .f32) (k0 : S12288.Idx → BitVec 32) : ℕ → S12288.Idx → BitVec 32
  | 0 => k0
  | n + 1 => kfull (keys b n)

theorem run_loop3 {b : S768x128.Idx → Elt F .f32} {k0 : S12288.Idx → BitVec 32} {t0 : S128.Idx → Elt F .f32} :
    Runs (F := F) d L iprop(hPts d L (fun _ => 0#32) ∗ kPts d L k0 ∗ bPts d L b ∗ tPts d L t0 ∗ R)
      (Scf.Loop.for k0_t3_loop k0_t3_ok 0#32 (onTile L (k0_t3_body (F := F)) lanes)) 0#32
      iprop(hPts d L (fun _ => 0#32) ∗ kPts d L (kfull (keys b 7)) ∗ bPts d L b ∗ tPts d L (tfull b) ∗ R) := by
  refine .loop' (fun _ => 0#32) (fun n => iprop(hPts d L (fun _ => 0#32) ∗ kPts d L (kAfter b k0 n) ∗ bPts d L b ∗ tPts d L (tbuf b t0 n) ∗ R)) (N := 8) rfl
    (by rw [tbuf_zero]; rfl) (by rw [tbuf_all]; rfl) fun g => ?_
  refine .bind run_part39 ?_
  refine .bind (Runs.comm (.framed (.at3 .load))) ?_
  refine .bind (Runs.comm (.framed (.at3 (.store (write_tbuf (k0_off8_eq g)))))) ?_
  exact .pure _

end Cert.Proof.Thr

end
-- ==== Proof.Radix.lean ====
/-
  What the two histogram scans find. A scan finds the bucket that the running count, from the top bucket down, crosses
  the rank in; over the top bytes and then over the second bytes of the keys that share the top byte found, it finds the
  upper half of the key of that rank.
-/
module

public import proofs.«01_k».proof.Proof.Group

@[expose] public section

noncomputable section

namespace Cert.Proof.Thr

open Cert.Kernel Cert.Kernel.Gen
open Idealize.ShloMosaic

/-! ## Comparisons of small words -/

theorem toInt_small {x : BitVec 32} (h : x.toNat ≤ 768) : x.toInt = x.toNat := by
  rw [BitVec.toInt_eq_toNat_cond, if_pos (by omega)]

theorem ofBool_eq_one (b : Bool) : BitVec.ofBool b = 1#1 ↔ b = true := by cases b <;> decide

theorem slt_iff (x y : BitVec 32) : IntOp.cmpi .slt x y = 1#1 ↔ x.toInt < y.toInt := by
  show BitVec.ofBool (x.slt y) = 1#1 ↔ _
  rw [ofBool_eq_one, BitVec.slt_eq_decide, decide_eq_true_eq]

theorem sge_iff (x y : BitVec 32) : IntOp.cmpi .sge x y = 1#1 ↔ y.toInt ≤ x.toInt := by
  show BitVec.ofBool (y.sle x) = 1#1 ↔ _
  rw [ofBool_eq_one, BitVec.sle_eq_decide, decide_eq_true_eq]

theorem and_one (a b : BitVec 1) : a &&& b = 1#1 ↔ a = 1#1 ∧ b = 1#1 := by revert a b; decide

/-! ## One scan of sixteen buckets -/

section Scan

variable {kt : IVec S16 32} {s : ℕ → IVec S16 32} {l : S16.Idx} {C : ℕ → ℕ}

theorem antitone_of_step (hC : ∀ j < 16, C j = C (j + 1) + (s j l).toNat) (i n : ℕ) (hn : i + n ≤ 16) : C (i + n) ≤ C i := by
  induction n with
  | zero => exact le_refl _
  | succ n ih =>
    have h1 := ih (by omega)
    have h2 := hC (i + n) (by omega)
    rw [show i + (n + 1) = i + n + 1 from rfl]
    omega

theorem cum_toNat (h16 : C 16 = 0) (hC : ∀ j < 16, C j = C (j + 1) + (s j l).toNat) (hb : C 0 ≤ 768) (n : ℕ) (hn : n ≤ 16) :
    (cum s n l).toNat = C (16 - n) := by
  induction n with
  | zero => exact h16.symm
  | succ n ih =>
    have h1 := ih (by omega)
    have h2 := hC (15 - n) (by omega)
    have h3 := antitone_of_step hC 0 (15 - n) (by omega)
    rw [show 15 - n + 1 = 16 - n by omega] at h2
    rw [show 0 + (15 - n) = 15 - n by omega] at h3
    rw [show 16 - (n + 1) = 15 - n by omega]
    show (cum s n l + s (15 - n) l).toNat = _
    rw [BitVec.toNat_add, h1]
    omega

theorem newly_iff (h16 : C 16 = 0) (hC : ∀ j < 16, C j = C (j + 1) + (s j l).toNat) (hb : C 0 ≤ 768) (hk : (kt l).toNat ≤ 768)
    (n : ℕ) (hn : n < 16) : newly kt s n l = 1#1 ↔ C (16 - n) < (kt l).toNat ∧ (kt l).toNat ≤ C (15 - n) := by
  have c1 := cum_toNat h16 hC hb n (by omega)
  have c2 := cum_toNat h16 hC hb (n + 1) (by omega)
  have a1 := antitone_of_step hC 0 (16 - n) (by omega)
  have a2 := antitone_of_step hC 0 (15 - n) (by omega)
  rw [show 16 - (n + 1) = 15 - n by omega] at c2
  rw [Nat.zero_add] at a1 a2
  show IntOp.cmpi .slt (cum s n l) (kt l) &&& IntOp.cmpi .sge (cum s (n + 1) l) (kt l) = 1#1 ↔ _
  rw [and_one, slt_iff, sge_iff, toInt_small (x := cum s n l) (by omega), toInt_small (x := cum s (n + 1) l) (by omega), toInt_small hk]
  omega

theorem scan16 (h16 : C 16 = 0) (hC : ∀ j < 16, C j = C (j + 1) + (s j l).toNat) (hb : C 0 ≤ 768)
    {t : ℕ} (ht : t < 16) (h1 : C (t + 1) < (kt l).toNat) (h2 : (kt l).toNat ≤ C t) :
    sel kt s 16 l = BitVec.ofNat 32 t ∧ base kt s 16 l = BitVec.ofNat 32 (C (t + 1)) := by
  have ha := antitone_of_step hC 0 t (by omega)
  rw [Nat.zero_add] at ha
  have hnew := newly_iff h16 hC hb (kt := kt) (by omega)
  suffices H : ∀ n, 16 - t ≤ n → n ≤ 16 → sel kt s n l = BitVec.ofNat 32 t ∧ base kt s n l = BitVec.ofNat 32 (C (t + 1)) from
    H 16 (by omega) (le_refl _)
  intro n hn
  induction n, hn using Nat.le_induction with
  | base =>
    intro _
    rw [show 16 - t = 15 - t + 1 by omega]
    have hh : newly kt s (15 - t) l = 1 := (hnew (15 - t) (by omega)).mpr (by
      rw [show 16 - (15 - t) = t + 1 by omega, show 15 - (15 - t) = t by omega]; exact ⟨h1, h2⟩)
    constructor
    · refine (select_eq _ _ _ l).trans ((if_pos hh).trans ?_)
      show BitVec.ofNat 32 (15 - (15 - t)) = _
      rw [show 15 - (15 - t) = t by omega]
    · refine (select_eq _ _ _ l).trans ((if_pos hh).trans ?_)
      apply BitVec.eq_of_toNat_eq
      rw [cum_toNat h16 hC hb (15 - t) (by omega), show 16 - (15 - t) = t + 1 by omega, BitVec.toNat_ofNat]
      omega
  | succ n hn ih =>
    intro hn'
    obtain ⟨i1, i2⟩ := ih (by omega)
    have ha' := antitone_of_step hC (16 - n) (t - (16 - n)) (by omega)
    rw [show 16 - n + (t - (16 - n)) = t by omega] at ha'
    have hh : ¬ newly kt s n l = 1 := fun h => by
      have := ((hnew n (by omega)).mp h).1
      omega
    exact ⟨(select_eq _ _ _ l).trans ((if_neg hh).trans i1), (select_eq _ _ _ l).trans ((if_neg hh).trans i2)⟩

end Scan

/-! ## The scan of a histogram -/

section Histogram

variable (p : ℕ → S16.Idx → Bool) (b : ℕ → S16.Idx → ℕ) (n : ℕ) (l : S16.Idx)

/-- How many of the counted rows lie in bucket `k` or above. -/
def above (k : ℕ) : ℕ := ((Finset.range n).filter fun c => p c l = true ∧ k ≤ b c l).card

theorem above_succ (k : ℕ) : above p b n l k = above p b n l (k + 1) + tally p b n l k := by
  unfold above tally
  rw [← Finset.card_union_of_disjoint]
  · congr 1; ext c
    simp only [Finset.mem_union, Finset.mem_filter, Finset.mem_range]
    constructor
    · rintro ⟨h1, h2, h3⟩
      rcases Nat.lt_or_ge k (b c l) with h | h
      · exact .inl ⟨h1, h2, h⟩
      · exact .inr ⟨h1, h2, by omega⟩
    · rintro (⟨h1, h2, h3⟩ | ⟨h1, h2, h3⟩) <;> exact ⟨h1, h2, by omega⟩
  · rw [Finset.disjoint_left]
    intro c h1 h2
    simp only [Finset.mem_filter] at h1 h2
    omega

theorem above_le (k : ℕ) : above p b n l k ≤ n := by
  unfold above
  exact (Finset.card_filter_le _ _).trans (Finset.card_range n).le

theorem above_top (hb : ∀ c, b c l < 256) : above p b n l 256 = 0 := by
  unfold above
  rw [Finset.card_eq_zero, Finset.filter_eq_empty_iff]
  intro c _ h
  have := hb c
  omega

variable {p b n l}

theorem histo_toNat (hn : n ≤ 768) {k : ℕ} (hk : k < 256) (m : ℕ) (hm : m = 16 * k + (l 0).val) :
    (histo p b n (hix m)).toNat = tally p b n l k := by
  have h2 : (l 0).val < 16 := (l 0).isLt
  show (BitVec.ofNat 32 (tally p b n (lane (hix m 0).val) ((hix m 0).val / 16))).toNat = _
  rw [hix_val (by omega), show m / 16 = k by omega, show lane m = l from (lane_congr (by omega)).trans (lane_self l), BitVec.toNat_ofNat]
  have h3 := above_succ p b n l k
  have h4 := above_le p b n l k
  omega

theorem psum_toNat (hn : n ≤ 768) {k : ℕ} (m : ℕ) (hk : k + m < 256) :
    above p b n l k = above p b n l (k + m + 1) + (psum (histo p b n) (16 * k) m l).toNat := by
  induction m with
  | zero =>
    show _ = _ + (histo p b n (hix (16 * k + (l 0).val))).toNat
    rw [histo_toNat hn (by omega) _ rfl]
    exact above_succ p b n l k
  | succ m ih =>
    have h1 := ih (by omega)
    have h2 := above_succ p b n l (k + m + 1)
    have h3 := above_le p b n l k
    show _ = _ + (psum (histo p b n) (16 * k) m l + histo p b n (hix (16 * k + 16 * (m + 1) + (l 0).val))).toNat
    rw [BitVec.toNat_add, histo_toNat (l := l) hn (k := k + m + 1) (by omega) _ (by omega), show k + (m + 1) + 1 = k + m + 1 + 1 from rfl]
    omega

theorem csum_toNat (hn : n ≤ 768) {j : ℕ} (hj : j < 16) :
    above p b n l (16 * j) = above p b n l (16 * (j + 1)) + (csum (histo p b n) j l).toNat := by
  have h := psum_toNat (p := p) (b := b) (l := l) hn (k := 16 * j) 15 (by omega)
  unfold csum
  rw [show 256 * j = 16 * (16 * j) by omega, show 16 * (j + 1) = 16 * j + 15 + 1 by omega]
  exact h

/-- The scan finds the bucket that the count from the top crosses the rank in, and the count above it. -/
theorem scan_histo (hn : n ≤ 768) (hb : ∀ c, b c l < 256) {kt : IVec S16 32} {B : ℕ} (hB : B < 256)
    (h1 : above p b n l (B + 1) < (kt l).toNat) (h2 : (kt l).toNat ≤ above p b n l B) :
    scanSel kt (histo p b n) l = BitVec.ofNat 32 B ∧ scanBase kt (histo p b n) l = BitVec.ofNat 32 (above p b n l (B + 1)) := by
  have anti : ∀ i m, above p b n l (i + m) ≤ above p b n l i := by
    intro i m
    induction m with
    | zero => exact le_refl _
    | succ m ih =>
      have := above_succ p b n l (i + m)
      rw [show i + (m + 1) = i + m + 1 from rfl]; omega
  have hle := above_le p b n l
  have hl : (l 0).val < 16 := (l 0).isLt
  have a1 := anti (B + 1) (16 * (B / 16 + 1) - (B + 1))
  have a2 := anti (16 * (B / 16)) (B - 16 * (B / 16))
  rw [show B + 1 + (16 * (B / 16 + 1) - (B + 1)) = 16 * (B / 16 + 1) by omega] at a1
  rw [show 16 * (B / 16) + (B - 16 * (B / 16)) = B by omega] at a2
  obtain ⟨s1, b1⟩ := scan16 (kt := kt) (s := csum (histo p b n)) (l := l) (C := fun j => above p b n l (16 * j)) (t := B / 16)
    (above_top p b n l hb) (fun j hj => csum_toNat hn hj) ((hle _).trans hn) (by omega) (by omega) (by omega)
  set q := above p b n l (16 * (B / 16 + 1)) with hq
  have hsum : (sel kt (csum (histo p b n)) 16 l).toNat = B / 16 := by rw [s1, BitVec.toNat_ofNat]; omega
  have hk2 : (kt2 kt (histo p b n) l).toNat = (kt l).toNat - q := by
    show (kt l - base kt (csum (histo p b n)) 16 l).toNat = _
    rw [b1, BitVec.toNat_sub, BitVec.toNat_ofNat]
    have := hle B
    have := hle (16 * (B / 16 + 1))
    have : (kt l).toNat < 2 ^ 32 := (kt l).isLt
    omega
  have hfine : ∀ j < 16, (fine (histo p b n) (wb kt (histo p b n)) j l).toNat = tally p b n l (16 * (B / 16) + j) := by
    intro j hj
    show (histo p b n (hix (addi (wb kt (histo p b n)) (broadcast S16 (BitVec.ofNat 32 (16 * j))) l).toNat)).toNat = _
    rw [wb_lt kt _ j (by omega), hsum]
    exact histo_toNat hn (by omega) _ (by omega)
  have anti2 : ∀ j, j ≤ 16 → q ≤ above p b n l (16 * (B / 16) + j) := by
    intro j hj
    have := anti (16 * (B / 16) + j) (16 - j)
    rw [show 16 * (B / 16) + j + (16 - j) = 16 * (B / 16 + 1) by omega] at this
    exact this
  obtain ⟨s2, b2⟩ := scan16 (kt := kt2 kt (histo p b n)) (s := fine (histo p b n) (wb kt (histo p b n))) (l := l)
    (C := fun j => above p b n l (16 * (B / 16) + j) - q) (t := B % 16)
    (by show above p b n l (16 * (B / 16) + 16) - q = 0
        rw [show 16 * (B / 16) + 16 = 16 * (B / 16 + 1) by omega]; omega)
    (fun j hj => by
      have e := above_succ p b n l (16 * (B / 16) + j)
      have := anti2 (j + 1) (by omega)
      have f := hfine j hj
      rw [show 16 * (B / 16) + j + 1 = 16 * (B / 16) + (j + 1) from rfl] at e
      show _ - q = _ - q + _
      omega)
    (by have := hle (16 * (B / 16) + 0); show _ - q ≤ 768; omega) (by omega)
    (by rw [hk2, show 16 * (B / 16) + (B % 16 + 1) = B + 1 by omega]; omega)
    (by rw [hk2, show 16 * (B / 16) + B % 16 = B by omega]; omega)
  rw [show 16 * (B / 16) + (B % 16 + 1) = B + 1 by omega] at b2
  constructor
  · show IntOp.shli .vector (sel kt (csum (histo p b n)) 16 l) (BitVec.ofNat 32 4) + sel (kt2 kt (histo p b n)) _ 16 l = _
    rw [shli_const _ _ (by decide), s2]
    apply BitVec.eq_of_toNat_eq
    rw [BitVec.toNat_add, BitVec.toNat_shiftLeft, hsum, BitVec.toNat_ofNat, BitVec.toNat_ofNat, Nat.shiftLeft_eq]
    omega
  · show base kt (csum (histo p b n)) 16 l + base (kt2 kt (histo p b n)) _ 16 l = _
    rw [b1, b2, ← BitVec.ofNat_add]
    congr 1
    show q + _ = _
    omega

end Histogram

/-! ## The key of a rank -/

theorem sshift_top (w : BitVec 32) : BitVec.ofNat 32 (top w) - 128#32 = w.sshiftRight 24 := by
  unfold top
  rw [BitVec.ofNat_toNat, BitVec.setWidth_eq, BitVec.add_sub_cancel]

theorem top_eq_iff (x w : BitVec 32) : (x.sshiftRight 24 == w.sshiftRight 24) = true ↔ top x = top w := by
  rw [beq_iff_eq]
  constructor
  · intro h; unfold top; rw [h]
  · intro h
    rw [← sshift_top, ← sshift_top, h]

theorem joined (w : BitVec 32) :
    (w.sshiftRight 24 <<< 8 ||| BitVec.ofNat 32 (snd w)) <<< 16 = w &&& 0xFFFF0000#32 := by
  unfold snd
  rw [BitVec.ofNat_toNat, BitVec.setWidth_eq]
  apply BitVec.eq_of_getLsbD_eq
  intro i hi
  simp only [BitVec.getLsbD_shiftLeft, BitVec.getLsbD_or, BitVec.getLsbD_and, BitVec.getLsbD_sshiftRight]
  have hm : ∀ i < 32, (0xFFFF0000#32).getLsbD i = decide (16 ≤ i) := by decide
  have hf : ∀ i < 32, (255#32).getLsbD i = decide (i < 8) := by decide
  rw [hm i hi]
  rcases Nat.lt_or_ge i 16 with h | h
  · simp [h, show ¬ 16 ≤ i by omega]
  · rw [hf (i - 16) (by omega)]
    rcases Nat.lt_or_ge i 24 with h' | h'
    · simp [show ¬ i < 16 by omega, h, show i - 16 < 8 by omega, show i - 16 < 32 by omega, hi, show 16 + (i - 16) = i by omega, show ¬ 32 ≤ i - 16 by omega]
    · simp [show ¬ i < 16 by omega, h, show ¬ i - 16 < 8 by omega, show i - 16 < 32 by omega, hi, show 24 + (i - 16 - 8) = i by omega,
        show i - 16 - 8 < 32 by omega, show ¬ 32 ≤ i - 16 - 8 by omega]

theorem card_lt_of_imp {q r : ℕ → Prop} [DecidablePred q] [DecidablePred r] {k : ℕ} (h : ((Finset.range 768).filter r).card < k) (hi : ∀ c, q c → r c) :
    ((Finset.range 768).filter q).card < k :=
  lt_of_le_of_lt (Finset.card_le_card fun c hc => Finset.mem_filter.mpr ⟨(Finset.mem_filter.mp hc).1, hi c (Finset.mem_filter.mp hc).2⟩) h

theorem le_card_of_imp {q r : ℕ → Prop} [DecidablePred q] [DecidablePred r] {k : ℕ} (h : k ≤ ((Finset.range 768).filter r).card) (hi : ∀ c, r c → q c) :
    k ≤ ((Finset.range 768).filter q).card :=
  h.trans (Finset.card_le_card fun c hc => Finset.mem_filter.mpr ⟨(Finset.mem_filter.mp hc).1, hi c (Finset.mem_filter.mp hc).2⟩)

section Rank

variable {ks : ℕ → IVec S16 32} {l : S16.Idx} {w : BitVec 32}

/-- How many keys have a top byte above `w`'s. -/
def over (ks : ℕ → IVec S16 32) (l : S16.Idx) (w : BitVec 32) : ℕ :=
  above (fun _ _ => true) (fun c l => top (ks c l)) 768 l (top w + 1)

theorem first_scan (h1 : 384 ≤ ((Finset.range 768).filter fun c => w.toInt ≤ (ks c l).toInt).card)
    (hlt : ((Finset.range 768).filter fun c => w.toInt < (ks c l).toInt).card < 384) :
    topSel ks l = w.sshiftRight 24 ∧ (rank2 ks l).toNat = 384 - over ks l w ∧ over ks l w < 384 := by
  have hw := top_eq w
  have g1 : over ks l w < 384 := card_lt_of_imp hlt fun c hc => by have := top_eq (ks c l); dsimp only at hc; omega
  have g2 : 384 ≤ above (fun _ _ => true) (fun c l => top (ks c l)) 768 l (top w) :=
    le_card_of_imp h1 fun c hc => ⟨rfl, by have := top_eq (ks c l); dsimp only; omega⟩
  obtain ⟨e1, e2⟩ := scan_histo (kt := K1) (l := l) (le_refl 768) (fun c => top_lt (ks c l)) (top_lt w) g1 g2
  refine ⟨(congrArg (· - 128#32) e1).trans (sshift_top w), ?_, g1⟩
  refine (congrArg (fun z => (384#32 - z).toNat) e2).trans ?_
  show (384#32 - BitVec.ofNat 32 (over ks l w)).toNat = _
  rw [BitVec.toNat_sub, BitVec.toNat_ofNat, BitVec.toNat_ofNat]
  omega

theorem over_add (hts : topSel ks l = w.sshiftRight 24) (k : ℕ) :
    over ks l w + above (fun c l => (ks c l).sshiftRight 24 == topSel ks l) (fun c l => snd (ks c l)) 768 l k
      = ((Finset.range 768).filter fun c => top w < top (ks c l) ∨ (top (ks c l) = top w ∧ k ≤ snd (ks c l))).card := by
  have hp : ∀ c, ((ks c l).sshiftRight 24 == topSel ks l) = true ↔ top (ks c l) = top w := fun c => by
    rw [hts]; exact top_eq_iff _ _
  unfold over above
  rw [← Finset.card_union_of_disjoint]
  · congr 1; ext c
    simp only [Finset.mem_union, Finset.mem_filter, hp, true_and]
    constructor
    · rintro (⟨m, h⟩ | ⟨m, h⟩)
      · exact ⟨m, .inl h⟩
      · exact ⟨m, .inr h⟩
    · rintro ⟨m, h | h⟩
      · exact .inl ⟨m, h⟩
      · exact .inr ⟨m, h⟩
  · rw [Finset.disjoint_left]
    intro c m1 m2
    simp only [Finset.mem_filter, hp] at m1 m2
    omega

/-- If at least 384 of the 768 keys are `w` or more and fewer than 384 are more, the two scans find `w`'s upper half. -/
theorem keyT_eq (h1 : 384 ≤ ((Finset.range 768).filter fun c => w.toInt ≤ (ks c l).toInt).card)
    (hlt : ((Finset.range 768).filter fun c => w.toInt < (ks c l).toInt).card < 384) :
    keyT ks l = w &&& 0xFFFF0000#32 := by
  obtain ⟨hts, hr, ho⟩ := first_scan h1 hlt
  have hw := top_eq w
  have hw2 := snd_eq w
  have k1 : ((Finset.range 768).filter fun c => top w < top (ks c l) ∨ (top (ks c l) = top w ∧ snd w + 1 ≤ snd (ks c l))).card < 384 :=
    card_lt_of_imp hlt fun c hc => by
      have := top_eq (ks c l)
      have := snd_eq (ks c l)
      omega
  have k2 : 384 ≤ ((Finset.range 768).filter fun c => top w < top (ks c l) ∨ (top (ks c l) = top w ∧ snd w ≤ snd (ks c l))).card :=
    le_card_of_imp h1 fun c hc => by
      have := top_eq (ks c l)
      have := snd_eq (ks c l)
      omega
  rw [← over_add hts] at k1 k2
  obtain ⟨e3, -⟩ := scan_histo (p := fun c l => (ks c l).sshiftRight 24 == topSel ks l) (b := fun c l => snd (ks c l)) (kt := rank2 ks) (l := l)
    (le_refl 768) (fun c => snd_lt (ks c l)) (snd_lt w) (by rw [hr]; omega) (by rw [hr]; omega)
  show IntOp.shli .vector (IntOp.ori (IntOp.shli .vector (topSel ks l) (BitVec.ofNat 32 8)) (scanSel (rank2 ks) (h2 ks) l)) (BitVec.ofNat 32 16) = _
  rw [shli_const _ _ (by decide), shli_const _ _ (by decide), hts]
  refine Eq.trans ?_ (joined w)
  exact congrArg (fun z => (w.sshiftRight 24 <<< 8 ||| z) <<< 16) e3

end Rank

end Cert.Proof.Thr

end
-- ==== Proof.Tile.lean ====
/-
  One tile's task: for each of its three blocks, the fetch, the groups' thresholds, and the write-back.
-/
module

public import proofs.«01_k».proof.Proof.Group

@[expose] public section

noncomputable section

namespace Cert.Proof.Thr

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [BitOps F]

local notation "𝕄" => MT nD τ sig (HIx 1) (Elt F) ℕ UU ℕ

/-! ## The blocks -/

/-- Number of the task tile `L` runs on trip `k`. -/
def task (L : grid0.Coords) (k : Fin k0_t2_loop.trips) : ℕ := 3 * (2 * (L 1).val + (L 0).val) + k.val

theorem off2_eq : ∀ (L : grid0.Coords) (k : Fin k0_t2_loop.trips), k0_off2 L k = ![20 + task L k / 8, 0, 128 * (task L k % 8)] := by
  decide +kernel
theorem off9_eq : ∀ (L : grid0.Coords) (k : Fin k0_t2_loop.trips), k0_off9 L k = ![task L k / 8, 0, 128 * (task L k % 8)] := by
  decide +kernel

/-- The output elements of task `t`. -/
def blk (t : ℕ) : Finset S12x1x1024.Idx := Finset.univ.filter fun i => 8 * (i 0).val + (i 2).val / 128 = t

variable (L : grid0.Coords) (k : Fin k0_t2_loop.trips)

abbrev xBlk : Memref sig .scVector .hbm S768x128 .f32 :=
  ((xM : Memref sig .scVector .hbm S32x768x1024 .f32).slice (Rect.unit (s := S32x768x1024) (k0_off2 L k) S1x768x128.size (k0_off2_inb L k)) (fun _ => rfl)).squeeze S768x128 squeezes_S1x768x128_S768x128
abbrev oBlk : Memref sig .scVector .hbm S128 .f32 :=
  ((oM : Memref sig .scVector .hbm S12x1x1024 .f32).slice (Rect.unit (s := S12x1x1024) (k0_off9 L k) S1x1x128.size (k0_off9_inb L k)) (fun _ => rfl)).squeeze S128 squeezes_S1x1x128_S128

def xix (a b c : ℕ) : S32x768x1024.Idx := fun | 0 => Fin.ofNat 32 a | 1 => Fin.ofNat 768 b | 2 => Fin.ofNat 1024 c

/-- The block task `t` reads. -/
def block (x : S32x768x1024.Idx → Elt F .f32) (t : ℕ) : S768x128.Idx → Elt F .f32 :=
  fun j => x (xix (20 + t / 8) (j 0).val (128 * (t % 8) + (j 1).val))

def tix (n : ℕ) : S128.Idx := fun | 0 => Fin.ofNat 128 n

/-- The thresholds the kernel leaves: at a task's element, its column's threshold in the task's block. -/
def G (x : S32x768x1024.Idx → Elt F .f32) : S12x1x1024.Idx → Elt F .f32 :=
  fun i => tfull (block x (8 * (i 0).val + (i 2).val / 128)) (tix ((i 2).val % 128))

theorem task_lt : task L k < 96 := by
  have h0 : (L 0).val < 2 := (L 0).isLt
  have h1 : (L 1).val < 16 := (L 1).isLt
  have h2 : k.val < 3 := k.isLt
  unfold task; omega

theorem emb_x (j : S768x128.Idx) : (xBlk L k).view.emb j = xix (20 + task L k / 8) (j 0).val (128 * (task L k % 8) + (j 1).val) := by
  show (Rect.unit (s := S32x768x1024) (k0_off2 L k) S1x768x128.size (k0_off2_inb L k)).emb (Shape.reshapeEquiv squeezes_S1x768x128_S768x128.numel_eq j) = _
  rw [Shape.reshapeEquiv_cons_one]
  have h := task_lt L k
  have h0 : (j 0).val < 768 := (j 0).isLt
  have h1 : (j 1).val < 128 := (j 1).isLt
  funext a
  apply Fin.ext
  rw [Rect.emb_apply]
  refine (congrArg (· + _) (congrFun (off2_eq L k) a)).trans ?_
  match a with
  | ⟨0, _⟩ => show 20 + task L k / 8 + 1 * 0 = (20 + task L k / 8) % 32; omega
  | ⟨1, _⟩ => show 0 + 1 * (j 0).val = (j 0).val % 768; omega
  | ⟨2, _⟩ => show 128 * (task L k % 8) + 1 * (j 1).val = (128 * (task L k % 8) + (j 1).val) % 1024; omega

theorem emb_o (j : S128.Idx) (a) : ((oBlk L k).view.emb j a).val = match a with | 0 => task L k / 8 | 1 => 0 | 2 => 128 * (task L k % 8) + (j 0).val := by
  show ((Rect.unit (s := S12x1x1024) (k0_off9 L k) S1x1x128.size (k0_off9_inb L k)).emb (Shape.reshapeEquiv squeezes_S1x1x128_S128.numel_eq j) a).val = _
  have hr : Shape.reshapeEquiv squeezes_S1x1x128_S128.numel_eq j = (fun | 0 => ⟨0, Nat.one_pos⟩ | 1 => ⟨0, Nat.one_pos⟩ | 2 => j 0 : S1x1x128.Idx) := by
    apply Shape.reshapeEquiv_eq_of_rowMajor
    rw [Shape.rowMajor_val_three, Shape.rowMajor_val_one]
    show (0 * 1 + 0) * 128 + (j 0).val = (j 0).val
    omega
  rw [hr, Rect.emb_apply]
  refine (congrArg (· + _) (congrFun (off9_eq L k) a)).trans ?_
  match a with
  | ⟨0, _⟩ => show task L k / 8 + 1 * 0 = task L k / 8; omega
  | ⟨1, _⟩ => rfl
  | ⟨2, _⟩ => show 128 * (task L k % 8) + 1 * (j 0).val = 128 * (task L k % 8) + (j 0).val; omega

theorem set_o : (oBlk L k).view.set = blk (task L k) := by
  have h := task_lt L k
  ext i
  constructor
  · intro hi
    obtain ⟨j, -, rfl⟩ := Finset.mem_map.mp hi
    have h0 : (j 0).val < 128 := (j 0).isLt
    refine Finset.mem_filter.mpr ⟨Finset.mem_univ _, ?_⟩
    rw [emb_o L k j 0, emb_o L k j 2]
    show 8 * (task L k / 8) + (128 * (task L k % 8) + (j 0).val) / 128 = _
    omega
  · intro hi
    have hi := (Finset.mem_filter.mp hi).2
    have h1 : (i 1).val < 1 := (i 1).isLt
    have h2 : (i 2).val < 1024 := (i 2).isLt
    refine Finset.mem_map.mpr ⟨tix (i 2).val, Finset.mem_univ _, ?_⟩
    funext a
    apply Fin.ext
    rw [emb_o]
    match a with
    | ⟨0, _⟩ => show task L k / 8 = (i 0).val; omega
    | ⟨1, _⟩ => show 0 = (i 1).val; omega
    | ⟨2, _⟩ => show 128 * (task L k % 8) + (i 2).val % 128 = (i 2).val; omega

theorem read_x (x : S32x768x1024.Idx → Elt F .f32) : (xBlk L k).view.read (Elt F) x = block x (task L k) := by
  funext j
  refine (View.read_apply _ _).trans ((cast_eq _ _).trans ?_)
  rw [emb_x]; rfl

theorem write_o (x : S32x768x1024.Idx → Elt F .f32) (f : S12x1x1024.Idx → Elt F .f32) (i : S12x1x1024.Idx) (hi : i ∈ blk (task L k)) :
    (oBlk L k).view.write (Elt F) f (tfull (block x (task L k))) Finset.univ i = G x i := by
  rw [← set_o] at hi
  obtain ⟨j, -, rfl⟩ := Finset.mem_map.mp hi
  refine (View.write_emb_of_mem _ _ (Finset.mem_univ j)).trans ((cast_eq _ _).trans ?_)
  have h := task_lt L k
  have h0 : (j 0).val < 128 := (j 0).isLt
  unfold G
  rw [emb_o L k j 0, emb_o L k j 2]
  have e1 : 8 * (task L k / 8) + (128 * (task L k % 8) + (j 0).val) / 128 = task L k := by omega
  have e2 : tix ((128 * (task L k % 8) + (j 0).val) % 128) = j := by
    funext a; obtain rfl : a = 0 := Subsingleton.elim _ _
    apply Fin.ext
    show (128 * (task L k % 8) + (j 0).val) % 128 % 128 = (j 0).val
    omega
  show _ = tfull (block x (8 * (task L k / 8) + (128 * (task L k % 8) + (j 0).val) / 128)) (tix ((128 * (task L k % 8) + (j 0).val) % 128))
  rw [e1, e2]

/-! ## The transfers -/

variable (d : Dev nD)

abbrev sem0 (L : grid0.Coords) : GSem nD τ sig := (tile d L, SemLoc.dma cc0_scoped0.sem)
abbrev sem1 (L : grid0.Coords) : GSem nD τ sig := (tile d L, SemLoc.dma cc0_scoped1.sem)

/-- What the tile owes, with some waits recorded on top of `W`, all at no index; and the evidence its waits are fine. -/
def Ow (L : grid0.Coords) (O : CellTallies nD τ sig (HIx 1)) (W : Waits sig (HIx 1)) : sProp 𝕄 :=
  iprop(Transfers.MayWaits (tile d L) (none : HIx 1) O ∗ ∃ W', ⌜∀ p ∈ W', p ∈ W ∨ p.2 = none⌝ ∗ owes (tile d L) O W')

abbrev xPts (L : grid0.Coords) (q : PosShare TreeShare) (x : S32x768x1024.Idx → Elt F .f32) : sProp 𝕄 :=
  (xM).view.loc (tile d L) ↦{q} (x : Buf (Elt F) ((xM).view.loc (tile d L)))

variable {O : CellTallies nD τ sig (HIx 1)} {W : Waits sig (HIx 1)} {L k d}

theorem run_fetch {q : PosShare TreeShare} {x : S32x768x1024.Idx → Elt F .f32} {b : S768x128.Idx → Elt F .f32} :
    Runs (F := F) d L iprop(xPts d L q x ∗ bPts d L b ∗ semVal (sem0 d L) 0 ∗ Ow d L O W)
      (do
        Prog.lift (.enqueueDma (xBlk L k) (.here bM) (.dma cc0_scoped0.sem) ((View.wordExact_bits rfl).reshape _ _) (Memref.isWhole_whole _).wordExact ⟨Or.inl rfl, trivial⟩)
        Prog.lift (.waitDma2 cc0_scoped0.sem (xBlk L k) bM ((View.wordExact_bits rfl).reshape _ _) (Memref.isWhole_whole _).wordExact)) ⟨⟩
      iprop(xPts d L q x ∗ bPts d L (block x (task L k)) ∗ semVal (sem0 d L) 0 ∗ Ow d L O W) := by
  intro Q
  unfold Ow
  iintro ⟨Hx, Hb, Hsem, Hmw, %W', %hW', HO⟩ HQ
  sl_exec (disch := exact View.amount_pos _ _ (show 0 < S768x128.numel by decide))
  sl_step
  iapply HQ
  isplitl [Hx]; · iexact Hx
  isplitl [Hb]
  · iapply (Entails.of_eq (congrArg (fun v : S768x128.Idx → Elt F .f32 => bPts d L v)
      ((View.write_whole_univ (Val := Elt F) cc0_scratch0 b ((xBlk L k).view.read (Elt F) x)).trans (read_x L k x)))); iexact Hb
  isplitl [Hsem]; · iexact Hsem
  isplitl [Hmw]; · iexact Hmw
  iexists (insert (SemLoc.dma cc0_scoped0.sem, (default : HIx 1)) W'); isplitr
  · ipureintro; intro p hp
    rcases Finset.mem_insert.mp hp with hp | hp
    · exact .inr (hp ▸ rfl)
    · exact hW' p hp
  · iexact HO

abbrev oPts (L : grid0.Coords) (k : Fin k0_t2_loop.trips) (f : S12x1x1024.Idx → Elt F .f32) : sProp 𝕄 :=
  (oM).view.loc (tile d L) ↦[blk (task L k)]{fullShare} (f : Buf (Elt F) ((oM).view.loc (tile d L)))

theorem run_put {x : S32x768x1024.Idx → Elt F .f32} {f : S12x1x1024.Idx → Elt F .f32} :
    Runs (F := F) d L iprop(tPts d L (tfull (block x (task L k))) ∗ oPts (d := d) L k f ∗ semVal (sem1 d L) 0 ∗ Ow d L O W)
      (do
        Prog.lift (.enqueueDma tM (.here (oBlk L k)) (.dma cc0_scoped1.sem) (Memref.isWhole_whole _).wordExact ((View.wordExact_bits rfl).reshape _ _) ⟨Or.inl rfl, trivial⟩)
        Prog.lift (.waitDma2 cc0_scoped1.sem tM (oBlk L k) (Memref.isWhole_whole _).wordExact ((View.wordExact_bits rfl).reshape _ _))) ⟨⟩
      iprop(tPts d L (tfull (block x (task L k))) ∗ oPts (d := d) L k (G x) ∗ semVal (sem1 d L) 0 ∗ Ow d L O W) := by
  intro Q
  unfold Ow
  iintro ⟨Ht, Ho, Hsem, Hmw, %W', %hW', HO⟩ HQ
  ihave Ho' := (Entails.of_eq (show (oPts (d := d) L k f : sProp 𝕄)
    = ((oBlk L k).view.loc (tile d L) ↦[(oBlk L k).view.set]{fullShare} (f : Buf (Elt F) ((oM).view.loc (tile d L)))) from by rw [set_o])) $$ Ho
  sl_exec (disch := exact View.amount_pos _ _ (show 0 < S128.numel by decide))
  sl_step
  iapply HQ
  isplitl [Ht]; · iexact Ht
  isplitl [Ho']
  · iapply (Entails.of_eq (show ((oBlk L k).view.loc (tile d L) ↦[(oBlk L k).view.set]{fullShare}
        ((oBlk L k).view.writes (Elt F) f [⟨Rect.whole S128, tfull (block x (task L k))⟩] : Buf (Elt F) ((oM).view.loc (tile d L))) : sProp 𝕄)
        = oPts (d := d) L k (G x) from by
      rw [← View.write_univ_eq_writes_whole (oBlk L k).view f [], set_o]
      exact pointsTo_congr fun i hi => write_o L k x f i hi))
    iexact Ho'
  isplitl [Hsem]; · iexact Hsem
  isplitl [Hmw]; · iexact Hmw
  iexists (insert (SemLoc.dma cc0_scoped1.sem, (default : HIx 1)) W'); isplitr
  · ipureintro; intro p hp
    rcases Finset.mem_insert.mp hp with hp | hp
    · exact .inr (hp ▸ rfl)
    · exact hW' p hp
  · iexact HO

/-! ## One trip, and the three -/

theorem run_trip {q : PosShare TreeShare} {x : S32x768x1024.Idx → Elt F .f32} {b : S768x128.Idx → Elt F .f32} {k0 : S12288.Idx → BitVec 32}
    {t0 : S128.Idx → Elt F .f32} {f : S12x1x1024.Idx → Elt F .f32} :
    Runs (F := F) d L
      iprop(hPts d L (fun _ => 0#32) ∗ kPts d L k0 ∗ bPts d L b ∗ tPts d L t0 ∗ xPts d L q x ∗ oPts (d := d) L k f
        ∗ semVal (sem0 d L) 0 ∗ semVal (sem1 d L) 0 ∗ Ow d L O W)
      (onTile L (k0_t2_body (F := F)) lanes k 0#32) 0#32
      iprop(hPts d L (fun _ => 0#32) ∗ kPts d L (kfull (keys (block x (task L k)) 7)) ∗ bPts d L (block x (task L k))
        ∗ tPts d L (tfull (block x (task L k))) ∗ xPts d L q x ∗ oPts (d := d) L k (G x)
        ∗ semVal (sem0 d L) 0 ∗ semVal (sem1 d L) 0 ∗ Ow d L O W) := by
  intro Q
  show _ ⊢ iprop(_ -∗ wp _ _ _ ((do
        Prog.lift (.enqueueDma (xBlk L k) (.here bM) (.dma cc0_scoped0.sem) ((View.wordExact_bits rfl).reshape _ _) (Memref.isWhole_whole _).wordExact ⟨Or.inl rfl, trivial⟩)
        Prog.lift (.waitDma2 cc0_scoped0.sem (xBlk L k) bM ((View.wordExact_bits rfl).reshape _ _) (Memref.isWhole_whole _).wordExact)) >>= fun _ =>
      (Scf.Loop.for k0_t3_loop k0_t3_ok 0#32 (onTile L (k0_t3_body (F := F)) lanes)) >>= fun _ =>
      (do
        Prog.lift (.enqueueDma tM (.here (oBlk L k)) (.dma cc0_scoped1.sem) (Memref.isWhole_whole _).wordExact ((View.wordExact_bits rfl).reshape _ _) ⟨Or.inl rfl, trivial⟩)
        Prog.lift (.waitDma2 cc0_scoped1.sem tM (oBlk L k) (Memref.isWhole_whole _).wordExact ((View.wordExact_bits rfl).reshape _ _))) >>= fun _ =>
      pure 0#32) Q)
  rw [wp_bind]
  iintro ⟨Hh, Hk, Hb, Ht, Hx, Ho, H0, H1, HO⟩ HQ
  iapply (run_fetch (k := k) _) $$ [Hx Hb H0 HO]
  · isplitl [Hx]; · iexact Hx
    isplitl [Hb]; · iexact Hb
    isplitl [H0] <;> iassumption
  iintro ⟨Hx, Hb, H0, HO⟩
  rw [wp_bind]
  iapply (run_loop3 (R := iprop(emp)) _) $$ [Hh Hk Hb Ht]
  · isplitl [Hh]; · iexact Hh
    isplitl [Hk]; · iexact Hk
    isplitl [Hb]; · iexact Hb
    isplitl [Ht]; · iexact Ht
    iempintro
  iintro ⟨Hh, Hk, Hb, Ht, -⟩
  rw [wp_bind]
  iapply (run_put (k := k) _) $$ [Ht Ho H1 HO]
  · isplitl [Ht]; · iexact Ht
    isplitl [Ho]; · iexact Ho
    isplitl [H1] <;> iassumption
  iintro ⟨Ht, Ho, H1, HO⟩
  rw [Prog.pure_eq_ret, wp_ret]
  imodintro
  iapply HQ
  isplitl [Hh]; · iexact Hh
  isplitl [Hk]; · iexact Hk
  isplitl [Hb]; · iexact Hb
  isplitl [Ht]; · iexact Ht
  isplitl [Hx]; · iexact Hx
  isplitl [Ho]; · iexact Ho
  isplitl [H0]; · iexact H0
  isplitl [H1] <;> iassumption

/-- Between trips: the scratch at anything (the histogram at zeros), the first `n` blocks of the output written. -/
def inv (d : Dev nD) (L : grid0.Coords) (q : PosShare TreeShare) (x : S32x768x1024.Idx → Elt F .f32) (f : S12x1x1024.Idx → Elt F .f32)
    (O : CellTallies nD τ sig (HIx 1)) (W : Waits sig (HIx 1)) (n : ℕ) : sProp 𝕄 :=
  iprop(hPts d L (fun _ => 0#32) ∗ (∃ k0, kPts d L k0) ∗ (∃ b, bPts d L b) ∗ (∃ t0, tPts d L t0) ∗ xPts d L q x
    ∗ (bigSep Finset.univ fun i : Fin k0_t2_loop.trips => oPts (d := d) L i (if i.val < n then G x else f))
    ∗ semVal (sem0 d L) 0 ∗ semVal (sem1 d L) 0 ∗ Ow d L O W)

theorem run_trips {q : PosShare TreeShare} {x : S32x768x1024.Idx → Elt F .f32} {f : S12x1x1024.Idx → Elt F .f32} :
    Runs (F := F) d L (inv d L q x f O W 0)
      (Scf.Loop.for k0_t2_loop k0_t2_ok 0#32 (onTile L (k0_t2_body (F := F)) lanes)) 0#32 (inv d L q x f O W k0_t2_loop.trips) := by
  refine .loop _ _ (fun _ => 0#32) _ (inv d L q x f O W) fun k => ?_
  intro Q
  unfold inv
  rw [SparseCore.bigSep_erase' (Finset.mem_univ k)]
  iintro ⟨Hh, ⟨%k0, Hk⟩, ⟨%b, Hb⟩, ⟨%t0, Ht⟩, Hx, ⟨Ho, Hos⟩, H0, H1, HO⟩ HQ
  iapply (run_trip (k := k) _) $$ [Hh Hk Hb Ht Hx Ho H0 H1 HO]
  · isplitl [Hh]; · iexact Hh
    isplitl [Hk]; · iexact Hk
    isplitl [Hb]; · iexact Hb
    isplitl [Ht]; · iexact Ht
    isplitl [Hx]; · iexact Hx
    isplitl [Ho]; · iexact Ho
    isplitl [H0]; · iexact H0
    isplitl [H1] <;> iassumption
  iintro ⟨Hh, Hk, Hb, Ht, Hx, Ho, H0, H1, HO⟩
  iapply HQ
  isplitl [Hh]; · iexact Hh
  isplitl [Hk]; · iexists _; iexact Hk
  isplitl [Hb]; · iexists _; iexact Hb
  isplitl [Ht]; · iexists _; iexact Ht
  isplitl [Hx]; · iexact Hx
  isplitl [Ho Hos]
  · rw [SparseCore.bigSep_erase' (Finset.mem_univ k), if_pos (Nat.lt_succ_self _)]
    isplitl [Ho]; · iexact Ho
    iapply (Entails.of_eq (bigSep_congr fun i hi => by
      have hne : i.val ≠ k.val := fun e => (Finset.mem_erase.mp hi).1 (Fin.ext e)
      by_cases h : i.val < k.val
      · rw [if_pos h, if_pos (by omega)]
      · rw [if_neg h, if_neg (by omega)])) $$ Hos
  isplitl [H0]; · iexact H0
  isplitl [H1] <;> iassumption

end Cert.Proof.Thr

end
-- ==== Proof.Launch.lean ====
/-
  The launch: the tiles' tasks from what the call hands out, the call from the launch memory, and the program's run. Every
  tile reads the whole input under a read share of its own and owns its three blocks of the output.
-/
module

public import proofs.«01_k».proof.Proof.Tile

@[expose] public section

noncomputable section

namespace Cert.Proof.Thr

open Cert.Kernel Cert.Kernel.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [BitOps F]

local notation "𝕄" => MT nD τ sig (HIx 1) (Elt F) ℕ UU ℕ

/-! ## The output, dealt out -/

/-- The output elements of the tile numbered `w`, and of the SparseCore numbered `c`. -/
def tset (w : ℕ) : Finset S12x1x1024.Idx := Finset.univ.filter fun i => (8 * (i 0).val + (i 2).val / 128) / 3 = w
def cset (c : ℕ) : Finset S12x1x1024.Idx := Finset.univ.filter fun i => (8 * (i 0).val + (i 2).val / 128) / 3 % 2 = c

theorem tset_blks (L : grid0.Coords) : tset (2 * (L 1).val + (L 0).val) = (Finset.univ : Finset (Fin k0_t2_loop.trips)).biUnion fun k => blk (task L k) := by
  ext i
  rw [Finset.mem_biUnion]
  constructor
  · intro h
    have h := (Finset.mem_filter.mp h).2
    refine ⟨⟨(8 * (i 0).val + (i 2).val / 128) % 3, Nat.mod_lt _ (by decide)⟩, Finset.mem_univ _, Finset.mem_filter.mpr ⟨Finset.mem_univ _, ?_⟩⟩
    show _ = 3 * (2 * (L 1).val + (L 0).val) + (8 * (i 0).val + (i 2).val / 128) % 3
    omega
  · rintro ⟨k, -, hk⟩
    have hk := (Finset.mem_filter.mp hk).2
    have h : k.val < 3 := k.isLt
    unfold task at hk
    exact Finset.mem_filter.mpr ⟨Finset.mem_univ _, by omega⟩

theorem blks_disjoint (L : grid0.Coords) : ∀ k ∈ (Finset.univ : Finset (Fin k0_t2_loop.trips)), ∀ k' ∈ (Finset.univ : Finset (Fin k0_t2_loop.trips)),
    k ≠ k' → Disjoint (blk (task L k)) (blk (task L k')) := by
  intro k _ k' _ hne
  rw [Finset.disjoint_left]
  intro i h h'
  have h := (Finset.mem_filter.mp h).2
  have h' := (Finset.mem_filter.mp h').2
  unfold task at h h'
  exact hne (Fin.ext (by omega))

theorem cset_tsets (c : ℕ) (hc : c < 2) : cset c = (Finset.univ : Finset (Fin 16)).biUnion fun s => tset (2 * s.val + c) := by
  ext i
  have h0 : (i 0).val < 12 := (i 0).isLt
  have h2 : (i 2).val < 1024 := (i 2).isLt
  simp only [tset, cset, Finset.mem_filter, Finset.mem_univ, true_and, Finset.mem_biUnion]
  constructor
  · intro h
    exact ⟨⟨(8 * (i 0).val + (i 2).val / 128) / 3 / 2, by omega⟩, by show _ = 2 * (_ / 2) + c; omega⟩
  · rintro ⟨s, hs⟩; omega

theorem tsets_disjoint (c : ℕ) : ∀ s ∈ (Finset.univ : Finset (Fin 16)), ∀ s' ∈ (Finset.univ : Finset (Fin 16)),
    s ≠ s' → Disjoint (tset (2 * s.val + c)) (tset (2 * s'.val + c)) := by
  intro s _ s' _ hne
  rw [Finset.disjoint_left]
  intro i h h'
  have h := (Finset.mem_filter.mp h).2
  have h' := (Finset.mem_filter.mp h').2
  exact hne (Fin.ext (by omega))

theorem univ_csets : (Finset.univ : Finset S12x1x1024.Idx) = (Finset.univ : Finset (Fin 2)).biUnion fun c => cset c.val := by
  ext i
  simp only [cset, Finset.mem_filter, Finset.mem_univ, true_and, Finset.mem_biUnion, true_iff]
  exact ⟨⟨(8 * (i 0).val + (i 2).val / 128) / 3 % 2, Nat.mod_lt _ (by decide)⟩, rfl⟩

theorem csets_disjoint : ∀ c ∈ (Finset.univ : Finset (Fin 2)), ∀ c' ∈ (Finset.univ : Finset (Fin 2)), c ≠ c' → Disjoint (cset c.val) (cset c'.val) := by
  intro s _ s' _ hne
  rw [Finset.disjoint_left]
  intro i h h'
  have h := (Finset.mem_filter.mp h).2
  have h' := (Finset.mem_filter.mp h').2
  exact hne (Fin.ext (by omega))

variable (d : Dev nD)

theorem o_blks (L : grid0.Coords) (f : S12x1x1024.Idx → Elt F .f32) :
    (oLoc d ↦[tset (2 * (L 1).val + (L 0).val)]{fullShare} (f : Buf (Elt F) (oLoc d)) : sProp 𝕄)
      = bigSep Finset.univ fun k : Fin k0_t2_loop.trips => oPts (d := d) L k f := by
  rw [tset_blks]
  exact pointsTo_biUnion Finset.univ (ℓ := oLoc d) (fun k => blk (task L k)) (blks_disjoint L)

theorem o_tsets (c : ℕ) (hc : c < 2) (f : S12x1x1024.Idx → Elt F .f32) :
    (oLoc d ↦[cset c]{fullShare} (f : Buf (Elt F) (oLoc d)) : sProp 𝕄)
      = bigSep Finset.univ fun s : Fin 16 => (oLoc d ↦[tset (2 * s.val + c)]{fullShare} (f : Buf (Elt F) (oLoc d)) : sProp 𝕄) := by
  rw [cset_tsets c hc]
  exact pointsTo_biUnion Finset.univ (ℓ := oLoc d) (fun s : Fin 16 => tset (2 * s.val + c)) (tsets_disjoint c)

theorem o_csets (f : S12x1x1024.Idx → Elt F .f32) :
    (oLoc d ↦{fullShare} (f : Buf (Elt F) (oLoc d)) : sProp 𝕄)
      = bigSep Finset.univ fun c : Fin 2 => (oLoc d ↦[cset c.val]{fullShare} (f : Buf (Elt F) (oLoc d)) : sProp 𝕄) := by
  have h := univ_csets
  rw [← pointsTo_biUnion Finset.univ (ℓ := oLoc d) (fun c : Fin 2 => cset c.val) csets_disjoint, ← h]

/-! ## What the call hands out and takes back -/

variable (m : (ℓ : Loc nD τ sig) → Buf (Elt F) ℓ) (ρ : Dev nD → PrngReg)

/-- The call's input: the argument with its last two axes merged. -/
def X (d : Dev nD) : S32x768x1024.Idx → Elt F .f32 :=
  shapeCast S32x768x1024 (show S32x768x32x32.Idx → Elt F .f32 from m (aLoc d)) shapeCasts_S32x768x32x32_S32x768x1024

/-- The read share of SparseCore `c`, and of its tile `s`. -/
abbrev cq (c : ℕ) : PosShare TreeShare := Transfers.shareTokN fullShare c
abbrev tq (c s : ℕ) : PosShare TreeShare := Transfers.shareTokN (cq c) s

abbrev xSh (q : PosShare TreeShare) : sProp 𝕄 := xLoc d ↦{q} (X m d : Buf (Elt F) (xLoc d))
abbrev oSh (A : Finset S12x1x1024.Idx) (f : S12x1x1024.Idx → Elt F .f32) : sProp 𝕄 := oLoc d ↦[A]{fullShare} (f : Buf (Elt F) (oLoc d))

def P : (K (F := F)).Pay (nD := nD) (Val := Elt F) (Name := ℕ) (U := UU) where
  st := fun _ d c => iprop(xSh d m (cq c.val) ∗ oSh d (cset c.val) (m (oLoc d)))
  dn := fun _ d c => iprop(xSh d m (cq c.val) ∗ oSh d (cset c.val) (G (X m d)))
  go := fun _ d c s => iprop(xSh d m (tq c.val s.val) ∗ oSh d (tset (2 * s.val + c.val)) (m (oLoc d)))
  td := fun _ d c s => iprop(xSh d m (tq c.val s.val) ∗ oSh d (tset (2 * s.val + c.val)) (G (X m d)))
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A tile's own semaphores and buffers -/

section Tile

variable (L : grid0.Coords)

theorem ownSems0_V :
    (ownSems0 (tile d L) : sProp 𝕄)
      = iprop(semVal (sem0 d L) 0 ∗ semVal (sem1 d L) 0 ∗ bigSep (((ownCells (tile d L)).erase (sem0 d L)).erase (sem1 d L)) fun g => semVal g 0) := by
  unfold SparseCore.Cfg.ownSems0
  rw [SparseCore.bigSep_erase' ((mem_ownCells (g := sem0 d L)).mpr ⟨rfl, by
      show (SemLoc.dma cc0_scoped0.sem : SemLoc sig).isScoped .scVector = true; decide⟩),
    SparseCore.bigSep_erase' (Finset.mem_erase.mpr ⟨by simp [sem0, sem1]; decide, (mem_ownCells (g := sem1 d L)).mpr ⟨rfl, by
      show (SemLoc.dma cc0_scoped1.sem : SemLoc sig).isScoped .scVector = true; decide⟩⟩)]

/-- A tile's scratch buffers, as its own references. -/
abbrev own4 : Finset (DevRef τ sig) :=
  (({cc0_scratch0, cc0_scratch1, cc0_scratch2, cc0_scratch3} : Finset (Ref sig .scVector)).map ⟨(Proc.scVector (cV L) (jV L)).devRef, Proc.devRef_injective _⟩)

theorem own4_sub : own4 L ⊆ ownRefs (τ := τ) (.scVector (cV L) (jV L)) := by
  intro b hb
  obtain ⟨r, hr, rfl⟩ := Finset.mem_map.mp hb
  simp only [Finset.mem_insert, Finset.mem_singleton] at hr
  rcases hr with rfl | rfl | rfl | rfl <;> exact SparseCore.Cfg.mem_ownRefs_of_owner (p := Proc.scVector (cV L) (jV L)) (b := (Proc.scVector (cV L) (jV L)).devRef _) rfl

theorem ownBufs_V :
    (ownBufs (tile d L) : sProp 𝕄)
      = iprop(((∃ f, bPts d L f) ∗ (∃ f, kPts d L f) ∗ (∃ f, tPts d L f) ∗ (∃ f, hPts d L f))
          ∗ bigSep (ownRefs (τ := τ) (.scVector (cV L) (jV L)) \ own4 L) fun b => iprop(∃ f, ((d, b) : Loc nD τ sig) ↦{fullShare} f)) := by
  unfold SparseCore.Cfg.ownBufs
  refine (SparseCore.bigSep_sdiff_split' (own4_sub L)).trans ?_
  congr 1
  unfold own4
  rw [bigSep_map, SparseCore.bigSep_insert' (show cc0_scratch0 ∉ ({cc0_scratch1, cc0_scratch2, cc0_scratch3} : Finset (Ref sig .scVector)) by decide),
    SparseCore.bigSep_insert' (show cc0_scratch1 ∉ ({cc0_scratch2, cc0_scratch3} : Finset (Ref sig .scVector)) by decide),
    SparseCore.bigSep_insert' (show cc0_scratch2 ∉ ({cc0_scratch3} : Finset (Ref sig .scVector)) by decide), bigSep_singleton]
  rfl

/-- The task on tile `L`: from its read share of the input and its part of the output, the thresholds in that part. -/
theorem tile_body (hF : (K (F := F)).Facts) (O : CellTallies nD τ sig (HIx 1)) (W : Waits sig (HIx 1)) (hO : ∀ g, O g none = 0)
    (q : PosShare TreeShare) :
    iprop(levAts (K (F := F)).L (K (F := F)).lev ∗ emp
        ∗ (xSh d m q ∗ oSh d (tset (2 * (L 1).val + (L 0).val)) (m (oLoc d)))
        ∗ scopedBufs (tile d L) ∗ scopedSems0 (tile d L) ∗ owes (tile d L) O W)
      ⊢ wp frame (wpE (defs₀ (F := F)) 𝒱₀ (tile d L) none) Set.univ
          (onTile L (cc0__sc_body (F := F)))
          fun _ => iprop((xSh d m q ∗ oSh d (tset (2 * (L 1).val + (L 0).val)) (G (X m d))) ∗ scopedBufs (tile d L) ∗ scopedSems0 (tile d L)
            ∗ ∃ W', ⌜∀ p ∈ W', p ∈ W ∨ p.2 = none⌝ ∗ owes (tile d L) O W') := by
  simp only [onTile, cc0__sc_body_eq_skeleton]
  show _ ⊢ wp _ _ _ ((Scf.Loop.for k0_t1_loop k0_t1_ok ⟨⟩ (onTile L (k0_t1_body (F := F)))) >>= fun _ =>
    (Scf.Loop.for k0_t2_loop k0_t2_ok 0#32 (onTile L (k0_t2_body (F := F)) lanes)) >>= fun _ => pure PUnit.unit) _
  rw [wp_bind, (K (F := F)).scopedBufs_V hF d (cV L) (jV L), SparseCore.Cfg.scopedSems0_V (Val := Elt F) d (cV L) (jV L), ownSems0_V, ownBufs_V]
  unfold oSh
  rw [o_blks, o_blks]
  iintro ⟨#Hlv, -, ⟨Hx, Ho⟩, ⟨⟨Hb, Hk, Ht, %h, Hh⟩, Hbufs⟩, ⟨H0, H1, Hsems⟩, HO⟩
  ihave Hmw := ((K (F := F)).mayWaits_none (thr := tile d L) hO) $$ Hlv
  iapply (run_loop1 (R := iprop(emp)) _) $$ [Hh]
  · isplitl [Hh]; · iexact Hh
    iempintro
  iintro ⟨Hh, -⟩
  rw [wp_bind]
  iapply (run_trips (q := q) (x := X m d) (f := m (oLoc d)) (O := O) (W := W) _) $$ [Hmw Hx Ho Hb Hk Ht Hh H0 H1 HO]
  · unfold inv Ow
    isplitl [Hh]; · iexact Hh
    isplitl [Hk]; · iexact Hk
    isplitl [Hb]; · iexact Hb
    isplitl [Ht]; · iexact Ht
    isplitl [Hx]; · iexact Hx
    isplitl [Ho]
    · iapply (Entails.of_eq (bigSep_congr fun i _ => by rw [if_neg (Nat.not_lt_zero _)])) $$ Ho
    isplitl [H0]; · iexact H0
    isplitl [H1]; · iexact H1
    isplitl [Hmw]; · iexact Hmw
    iexists W; isplitr
    · ipureintro; exact fun p hp => .inl hp
    · iexact HO
  unfold inv Ow
  iintro ⟨Hh, Hk, Hb, Ht, Hx, Ho, H0, H1, -, HO⟩
  rw [Prog.pure_eq_ret, wp_ret]
  imodintro
  isplitl [Hx Ho]
  · isplitl [Hx]; · iexact Hx
    iapply (Entails.of_eq (bigSep_congr fun i _ => by rw [if_pos i.isLt])) $$ Ho
  isplitl [Hh Hk Hb Ht Hbufs]
  · isplitl [Hh Hk Hb Ht]
    · isplitl [Hb]; · iexact Hb
      isplitl [Hk]; · iexact Hk
      isplitl [Ht]; · iexact Ht
      iexists _; iexact Hh
    · iexact Hbufs
  isplitl [H0 H1 Hsems]
  · isplitl [H0]; · iexact H0
    isplitl [H1] <;> iassumption
  · iexact HO

end Tile

/-! ## The launch's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => onTile (coordsV c s) (cc0__sc_body (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d m (coordsV ⟨_, hc.1⟩ ⟨_, hc.2⟩) hF O W hO (tq c.val i.val)).trans (wp_mono frame _ _ fun _ => obl_post)

theorem x_tiles (c : ℕ) :
    (xSh d m (cq c) : sProp 𝕄) ⊣⊢ iprop(xSh d m (Transfers.shareDrop (cq c) 16) ∗ bigSep Finset.univ fun s : Fin 16 => xSh d m (tq c s.val)) :=
  Transfers.pointsTo_toks (cq c) 16

theorem vecSplit : (K (F := F)).VecSplit' (P m) 0 := by
  intro d c
  have hc : c.val < 2 := c.isLt
  show iprop(xSh d m (cq c.val) ∗ oSh d (cset c.val) (m (oLoc d))) ⊢ |={Set.univ}=> iprop(
      (bigSep (Finset.univ : Finset (Fin 16)) fun s => iprop(xSh d m (tq c.val s.val) ∗ oSh d (tset (2 * s.val + c.val)) (m (oLoc d))))
      ∗ ((bigSep (Finset.univ : Finset (Fin 16)) fun s => iprop(xSh d m (tq c.val s.val) ∗ oSh d (tset (2 * s.val + c.val)) (G (X m d))))
          -∗ iprop(xSh d m (cq c.val) ∗ oSh d (cset c.val) (G (X m d)))))
  rw [bigSep_sep', bigSep_sep']
  unfold oSh
  rw [o_tsets d _ hc, o_tsets d _ hc]
  iintro ⟨Hx, Ho⟩
  ihave Hx' := (x_tiles d m c.val).1 $$ Hx
  icases Hx' with ⟨Hr, Hx⟩
  imodintro
  isplitl [Hx Ho]
  · isplitl [Hx] <;> iassumption
  iintro ⟨Hx, Ho⟩
  isplitl [Hr Hx]
  · iapply (x_tiles d m c.val).2
    isplitl [Hr] <;> iassumption
  · iexact Ho

/-! ## The launch element: the handshakes' rounds; nothing of the kernel's own -/

def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev opR : HloOp τ sig (Elt F) := StableHlo.reshape main_arg0 main_v0 (rfl : (.f32 : EltTy) = .f32) shapeCasts_S32x768x32x32_S32x768x1024
abbrev S3 : Finset (DevRef τ sig) := {a', x', o'}

theorem held_S3 (W : Valuation τ sig (Elt F)) :
    (held (T d) S3 W : sProp 𝕄) = iprop((aLoc d ↦{fullShare} W a') ∗ (xLoc d ↦{fullShare} W x') ∗ (oLoc d ↦{fullShare} W o')) := by
  unfold held S3
  rw [SparseCore.bigSep_insert' (by decide), SparseCore.bigSep_insert' (by decide), bigSep_singleton]

theorem unscopedBufs_eq (W : (b : Ref sig .tc) → Buf (Elt F) ((d.tc : Thread nD τ).loc b)) :
    (unscopedBufs d W : sProp 𝕄) = iprop((aLoc d ↦{fullShare} W main_arg0) ∗ (xLoc d ↦{fullShare} W main_v0) ∗ (oLoc d ↦{fullShare} W main_v1)) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

def V0 (d : Dev nD) : Valuation τ sig (Elt F) := fun b => m (d, b)

theorem unscoped_held : (unscopedBufs d (fun b => m ((SparseCore.T d).loc b)) : sProp 𝕄) = held (T d) S3 (V0 m d) := by
  rw [unscopedBufs_eq, held_S3]; rfl

theorem held_V1 : (held (T d) S3 ((opR (F := F)).result (V0 m d)) : sProp 𝕄)
    = iprop((aLoc d ↦{fullShare} m (aLoc d)) ∗ xSh d m fullShare ∗ (oLoc d ↦{fullShare} m (oLoc d))) := by
  rw [held_S3, StableHlo.reshape_result_ne main_arg0 main_v0 _ _ _ _ _ (show (main_arg0 : Ref sig .tc) ≠ main_v0 by decide),
    StableHlo.reshape_result_ne main_arg0 main_v0 _ _ _ _ _ (show (main_v1 : Ref sig .tc) ≠ main_v0 by decide), StableHlo.reshape_result]
  rfl

theorem x_cores : (xSh d m fullShare : sProp 𝕄) ⊣⊢ iprop(xSh d m (Transfers.shareDrop fullShare 2) ∗ bigSep Finset.univ fun c : Fin 2 => xSh d m (cq c.val)) :=
  Transfers.pointsTo_toks fullShare 2

theorem st0_eq : (bigSep Finset.univ fun c : Fin ((K (F := F)).nCore 0) => (P m).st 0 d c)
    = iprop((bigSep Finset.univ fun c : Fin 2 => xSh d m (cq c.val)) ∗ (oLoc d ↦{fullShare} m (oLoc d))) := by
  rw [o_csets]; exact bigSep_sep' _ _ _
theorem dn0_eq : (bigSep Finset.univ fun c : Fin ((K (F := F)).nCore 0) => (P m).dn 0 d c)
    = iprop((bigSep Finset.univ fun c : Fin 2 => xSh d m (cq c.val)) ∗ oSh d Finset.univ (G (X m d))) := by
  unfold oSh; rw [o_csets]; exact bigSep_sep' _ _ _

/-- What @main leaves: the argument as it was, the thresholds in the output. -/
abbrev FIN (d : Dev nD) : sProp 𝕄 := iprop((aLoc d ↦{fullShare} m (aLoc d)) ∗ oSh d Finset.univ (G (X m d)))

theorem hR : (opR (F := F)).bufs ⊆ S3 := show ({a', x'} : Finset (DevRef τ sig)) ⊆ S3 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S3) hR (V := V0 m d)) $$ [Hb Hheld]
  · isplitl [Hb] <;> iassumption
  iintro ⟨Hb, Hheld⟩
  ihave Hh := (Entails.of_eq (held_V1 (F := F) d m)) $$ Hheld
  icases Hh with ⟨Ha, Hx, Ho⟩
  ihave Hx' := (x_cores d m).1 $$ Hx
  icases Hx' with ⟨-, Hx⟩
  rw [wp_ret]; imodintro
  iapply ((K (F := F)).wp_run (D (F := F)) 𝒱 (EH := EH) (P := P m) κ d 0) $$ [Hst Ha Hx Ho Hb Hts]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq d m)) $$ Hdn
  icases Hdn' with ⟨-, Ho⟩
  imodintro
  isplitl [Hst]; · iexact Hst
  isplitl [Ha Ho]
  · isplitl [Ha] <;> iassumption
  isplitl [Hb] <;> iassumption

def fq (d : Dev nD) (s' : Phys nD τ sig (Elt F)) : Prop :=
  s'.mem.mem (aLoc d) = m (aLoc d) ∧ s'.mem.mem (oLoc d) = (G (X m d) : Buf (Elt F) (oLoc d))

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := oLoc d) (I := Finset.univ) (q := fullShare) (f := (G (X m d) : Buf (Elt F) (oLoc d)))) $$ [HSI Ho]
  · isplitl [HSI] <;> iassumption
  icases H with %h2
  ipureintro; exact ⟨funext fun i => h1 i (Finset.mem_univ i), funext fun i => h2 i (Finset.mem_univ i)⟩

/-! ## The program's run -/

/-- What holds at the end: the argument unchanged, the output the thresholds, every semaphore at zero. -/
def QC : PUnit × MemSt nD τ sig (Elt F) → Prop := fun r =>
  (∀ c : Dev nD, r.2.mem (aLoc c) = m (aLoc c) ∧ r.2.mem (oLoc c) = (G (X m c) : Buf (Elt F) (oLoc c))) ∧ r.2.sem = fun _ => 0

theorem run_main [∀ e, Nonempty (Elt F e)] :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Thr

end
-- ==== Proof.Ref.lean ====
/-
  The reference's value: the entry at place 383 of a column sorted from the greatest down has at least 384 keys at its
  own or above it and fewer than 384 above it, so its upper half is the key the kernel finds; clearing the lower half of
  the key is what the reference's choice by sign does to the float's bits.
-/
module

public import proofs.«01_k».proof.Proof.Radix
public import proofs.«01_k».proof.Proof.Launch
public import proofs.«01_k».proof.Proof.Gen.Reference.Run
public import Idealize.ShloMosaic.Lib.SortKey
public import Idealize.ShloMosaic.Lib.SortFacts

@[expose] public section

noncomputable section

namespace Cert.Proof.Thr

open Idealize.ShloMosaic

/-! ## The entry of a rank in a sorted column -/

section Rank

variable {n : ℕ} (key : Fin n → Int) (σ : Fin n → Fin n)

theorem rank_le (hs : ∀ i j, i < j → key (σ j) ≤ key (σ i)) (hi : Function.Injective σ) (r : Fin n) :
    r.val + 1 ≤ (Finset.univ.filter fun c => key (σ r) ≤ key c).card := by
  rw [← Fin.card_Iic r]
  refine Finset.card_le_card_of_injOn σ ?_ hi.injOn
  intro i hir
  have hir' : i ≤ r := by simpa using hir
  simp only [Finset.coe_filter, Finset.mem_univ, true_and, Set.mem_setOf_eq]
  rcases lt_or_eq_of_le hir' with h | h
  · exact hs i r h
  · rw [h]

theorem rank_lt (hs : ∀ i j, i < j → key (σ j) ≤ key (σ i)) (ho : Function.Surjective σ) (r : Fin n) :
    (Finset.univ.filter fun c => key (σ r) < key c).card < r.val + 1 := by
  refine Nat.lt_succ_of_le ?_
  rw [← Fin.card_Iio r]
  refine le_trans (Finset.card_le_card ?_) (Finset.card_image_le (f := σ))
  intro c hc
  have hc' : key (σ r) < key c := by simpa using hc
  obtain ⟨j, rfl⟩ := ho c
  refine Finset.mem_image.mpr ⟨j, ?_, rfl⟩
  rw [Finset.mem_Iio]
  by_contra hj
  rcases lt_or_eq_of_le (not_lt.mp hj) with h | h
  · have := hs r j h; omega
  · rw [h] at hc'; omega

end Rank

theorem card_range (q : ℕ → Prop) [DecidablePred q] :
    (Finset.univ.filter fun c : Fin 768 => q c.val).card = ((Finset.range 768).filter q).card := by
  refine Finset.card_bij (fun c _ => c.val) ?_ ?_ ?_
  · intro c hc
    rw [Finset.mem_filter] at hc ⊢
    exact ⟨Finset.mem_range.mpr c.isLt, hc.2⟩
  · intro a _ b _ h; exact Fin.ext h
  · intro c hc
    rw [Finset.mem_filter, Finset.mem_range] at hc
    exact ⟨⟨c, hc.1⟩, Finset.mem_filter.mpr ⟨Finset.mem_univ _, hc.2⟩, rfl⟩

/-! ## Clearing the lower half of the key -/

theorem keyOf_eq (w : BitVec 32) : keyOf w = sortableKey w := by
  unfold keyOf sortableKey
  rw [BitVec.and_comm]

/-- Clearing the key's bits at `lo` clears the bits of a float from zero up and sets those of a float below zero. -/
theorem cleared (u lo : BitVec 32) (hlo : lo.getLsbD 31 = false) :
    keyOf (keyOf u &&& ~~~lo) = if u.toInt < 0 then u ||| lo else u &&& ~~~lo := by
  have hneg : u.toInt < 0 ↔ u.msb = true := by rw [BitVec.msb_eq_toInt, decide_eq_true_eq]
  have hM : (~~~lo).msb = true := by rw [BitVec.msb_not, BitVec.msb_eq_getLsbD_last, hlo]; rfl
  have hx : (0x7FFFFFFF#32 : BitVec 32).msb = false := by decide
  rw [keyOf_eq, keyOf_eq]
  cases h : u.msb
  · rw [if_neg (by rw [hneg, h]; decide), sortableKey_of_msb_false u h, sortableKey_of_msb_false _ (by rw [BitVec.msb_and, h, Bool.false_and])]
  · rw [if_pos (hneg.mpr h), sortableKey_of_msb_true u h,
      sortableKey_of_msb_true _ (by rw [BitVec.msb_and, BitVec.msb_xor, h, hM, hx]; rfl)]
    apply BitVec.eq_of_getLsbD_eq
    intro i hi
    have hm : (0x7FFFFFFF#32).getLsbD i = decide (i < 31) := by revert i; decide
    simp only [BitVec.getLsbD_xor, BitVec.getLsbD_and, BitVec.getLsbD_or, BitVec.getLsbD_not, hm, hi, decide_true, Bool.true_and]
    rcases Nat.lt_or_ge i 31 with h1 | h1
    · rw [decide_eq_true h1]; cases u.getLsbD i <;> cases lo.getLsbD i <;> rfl
    · obtain rfl : i = 31 := by omega
      have hu : u.getLsbD 31 = true := by rw [BitVec.msb_eq_getLsbD_last] at h; exact h
      rw [hu, hlo]; rfl

/-! ## The reference's entry -/

open Cert.Reference (S_ S32x1024x1 S32x1024x384 S32x1024x768 S32x32x32x768 S32x768x32x32 S32x1024)

/-- Row `b`, place `n`, channel `c`. -/
def cix (b n c : ℕ) : S32x1024x768.Idx := fun | 0 => Fin.ofNat 32 b | 1 => Fin.ofNat 1024 n | 2 => Fin.ofNat 768 c

theorem cix_along (b n c : ℕ) (k : Fin 768) : (cix b n c).along (2 : Fin 3) k = cix b n k.val := by
  funext a
  unfold Shape.Idx.along
  match a with
  | 0 => exact Function.update_of_ne (by decide) ..
  | 1 => exact Function.update_of_ne (by decide) ..
  | 2 => exact (Function.update_self ..).trans (Fin.ext (Nat.mod_eq_of_lt k.isLt).symm)

theorem topK_read (gt : BitVec 32 → BitVec 32 → BitVec 1) (v : S32x1024x768.Idx → BitVec 32) (b n : ℕ) (j : S32x1024x384.Idx)
    (h : S32x1024x768.Slices (fun _ => 0) S32x1024x384) (hj0 : (j 0).val = b) (hj1 : (j 1).val = n) (hj2 : (j 2).val = 383) :
    (Host.topK (s := S32x1024x768) S32x1024x384 2 gt v h).1 j
      = v (cix b n (sortedFrom (fun k k' : Fin 768 => gt (v (cix b n k.val)) (v (cix b n k'.val)) == 1#1) ⟨383, by decide⟩).val) := by
  have hb : (j 0).val < 32 := (j 0).isLt
  have hn : (j 1).val < 1024 := (j 1).isLt
  have e : ∀ y : S32x1024x768.Idx → BitVec 32, extractStridedSlice S32x1024x384 (fun _ => 0) y h j = y (cix b n 383) := by
    intro y
    refine extractStridedSlice_apply _ _ _ _ _ fun a => ?_
    rw [Nat.zero_add]
    match a with
    | 0 => show b % 32 = (j 0).val; omega
    | 1 => show n % 1024 = (j 1).val; omega
    | 2 => exact hj2.symm
  unfold Host.topK
  dsimp only
  rw [e]
  unfold Host.sort2
  rw [dif_pos (by decide)]
  dsimp only
  refine congrArg v ((cix_along b n 383 _).trans ?_)
  congr 3
  funext k k'
  exact congrArg (· == 1#1) (congrArg₂ gt (congrArg v (cix_along b n 383 k)) (congrArg v (cix_along b n 383 k')))

theorem topK_entry (v : S32x1024x768.Idx → BitVec 32) (b n : ℕ) (j : S32x1024x384.Idx)
    (h : S32x1024x768.Slices (fun _ => 0) S32x1024x384)
    (hj0 : (j 0).val = b) (hj1 : (j 1).val = n) (hj2 : (j 2).val = 383) :
    let w := (Host.topK (s := S32x1024x768) S32x1024x384 2 (FloatOps.cmpfTotal (F := Bits) (φ := .f32) .gt) v h).1 j
    384 ≤ ((Finset.range 768).filter fun c => (keyOf w).toInt ≤ (keyOf (v (cix b n c))).toInt).card
      ∧ ((Finset.range 768).filter fun c => (keyOf w).toInt < (keyOf (v (cix b n c))).toInt).card < 384 := by
  intro w
  let B : Fin 768 → Fin 768 → Bool := fun k k' => FloatOps.cmpfTotal (F := Bits) (φ := .f32) .gt (v (cix b n k.val)) (v (cix b n k'.val)) == 1#1
  let key : Fin 768 → Int := fun k => (keyOf (v (cix b n k.val))).toInt
  have hB : ∀ k k', B k k' = true ↔ key k' < key k := by
    intro k k'
    show (_ == 1#1) = true ↔ _
    rw [beq_iff_eq, cmpfTotal_f32_eq_cmpi_sortableKey, ← keyOf_eq, ← keyOf_eq]
    show BitVec.ofBool (BitVec.slt _ _) = 1#1 ↔ _
    rw [ofBool_eq_one, BitVec.slt_eq_decide, decide_eq_true_eq]
  have hBf : ∀ k k', B k k' = false ↔ key k ≤ key k' := by
    intro k k'
    rw [← Bool.not_eq_true, hB]; omega
  have hs : ∀ i j, i < j → key (sortedFrom B j) ≤ key (sortedFrom B i) := fun i j hij =>
    (hBf _ _).mp (sortedFrom_noInversion B B
      (fun a b h => (hBf _ _).mpr (le_of_lt ((hB _ _).mp h))) (fun _ _ h => h)
      (fun a b c h1 h2 => (hBf _ _).mpr (le_trans ((hBf _ _).mp h1) ((hBf _ _).mp h2))) i j hij)
  have hw : w = v (cix b n (sortedFrom B ⟨383, by decide⟩).val) := topK_read _ v b n j h hj0 hj1 hj2
  have r1 := rank_le key (sortedFrom B) hs (sortedFrom_injective B) ⟨383, by decide⟩
  have r2 := rank_lt key (sortedFrom B) hs (sortedFrom_surjective B) ⟨383, by decide⟩
  rw [hw]
  exact ⟨r1.trans (card_range fun c => key (sortedFrom B ⟨383, by decide⟩) ≤ (keyOf (v (cix b n c))).toInt).le,
    (card_range fun c => key (sortedFrom B ⟨383, by decide⟩) < (keyOf (v (cix b n c))).toInt).ge.trans_lt r2⟩

/-! ## The reference's value -/

section Value

open Cert.Reference.Gen

variable (a : S32x768x32x32.Idx → BitVec 32)

/-- The columns as the reference lays them out, and the sorted columns' first half. -/
abbrev xT : S32x1024x768.Idx → BitVec 32 :=
  shapeCast _ (transpose S32x32x32x768 [0, 2, 3, 1] a transposes_S32x768x32x32_S32x32x32x768_0_2_3_1) shapeCasts_S32x32x32x768_S32x1024x768
abbrev half : S32x1024x384.Idx → BitVec 32 :=
  (Host.topK S32x1024x384 2 (FloatOps.cmpfTotal (F := Bits) (φ := .f32) .gt) (xT a) sliceFits_S32x1024x768_S32x1024x384).1

/-- `r` rows of thresholds, without and with the axis of length one. -/
abbrev Rows (r : ℕ) : Shape := ⟨2, ![r, 1024]⟩
abbrev Rows1 (r : ℕ) : Shape := ⟨3, ![r, 1, 1024]⟩

section Rows

variable (r off : ℕ) [NeZero r] (hs : S32x1024.Slices ![off, 0] (Rows r)) (h0 : S_.BroadcastsInDim (Rows r) (![] : Fin 0 → Fin (Rows r).rank))
  (h1 : (Rows r).BroadcastsInDim (Rows1 r) (![0, 2] : Fin 2 → Fin (Rows1 r).rank)) (lo hi : BitVec 32)

/-- The chosen entries of the `r` rows from `off` on, -/
abbrev pick : (Rows r).Idx → BitVec 32 :=
  extractStridedSlice (Rows r) ![off, 0] (shapeCast _ (extractStridedSlice S32x1024x1 ![0, 0, 383] (half a) slices_S32x1024x384_S32x1024x1_0_0_383)
    shapeCasts_S32x1024x1_S32x1024) hs

/-- and their coarse values: the bits at `lo` set below zero, those outside `hi` cleared from zero up. -/
abbrev coarse : (Rows1 r).Idx → BitVec 32 :=
  broadcastInDim (Rows1 r) ![0, 2] h1 (bitcastToFloat (F := Bits) .f32
    (select (cmpi .slt (bitcastToInt (F := Bits) (φ := .f32) (pick a r off hs)) (broadcastInDim (Rows r) ![] h0 (constantI S_ 32 0#32)))
      (ori (bitcastToInt (F := Bits) (φ := .f32) (pick a r off hs)) (broadcastInDim (Rows r) ![] h0 (constantI S_ 32 lo)))
      (andi (bitcastToInt (F := Bits) (φ := .f32) (pick a r off hs)) (broadcastInDim (Rows r) ![] h0 (constantI S_ 32 hi)))))

def rowix (i n : ℕ) : (Rows r).Idx := fun | 0 => Fin.ofNat r i | 1 => Fin.ofNat 1024 n

end Rows

abbrev value : Cert.Reference.S12x1x1024.Idx → BitVec 32 :=
  coarse a 12 20 slices_S32x1024_S12x1024_20_0 bcast_S_S12x1024 bcast_S12x1024_S12x1x1024_0_2 65535#32 4294901760#32

def hfx (b n : ℕ) : S32x1024x384.Idx := fun | 0 => Fin.ofNat 32 b | 1 => Fin.ofNat 1024 n | 2 => Fin.ofNat 384 383
def lix (b n : ℕ) : S32x1024x1.Idx := fun | 0 => Fin.ofNat 32 b | 1 => Fin.ofNat 1024 n | 2 => Fin.ofNat 1 0
def mix (b n : ℕ) : S32x1024.Idx := fun | 0 => Fin.ofNat 32 b | 1 => Fin.ofNat 1024 n
def aix (b c p q : ℕ) : S32x768x32x32.Idx := fun | 0 => Fin.ofNat 32 b | 1 => Fin.ofNat 768 c | 2 => Fin.ofNat 32 p | 3 => Fin.ofNat 32 q
def bix4 (b c p q : ℕ) : S32x32x32x768.Idx := fun | 0 => Fin.ofNat 32 b | 1 => Fin.ofNat 32 p | 2 => Fin.ofNat 32 q | 3 => Fin.ofNat 768 c

theorem pick_eq (r off : ℕ) [NeZero r] (hs : S32x1024.Slices ![off, 0] (Rows r)) (i n : ℕ) (hi : i < r) (hr : off + r ≤ 32) (hn : n < 1024) :
    pick a r off hs (rowix r i n) = half a (hfx (off + i) n) := by
  refine (extractStridedSlice_apply _ _ _ _ (mix (off + i) n) fun x => ?_).trans ?_
  · match x with
    | 0 =>
      show (off + i) % 32 = off + i % r
      rw [Nat.mod_eq_of_lt hi]; omega
    | 1 => show n % 1024 = 0 + n % 1024; omega
  refine (shapeCast_apply _ _ _ (lix (off + i) n) ?_).trans ?_
  · rw [Shape.rowMajor_val_three, Shape.rowMajor_val_two]
    show ((off + i) % 32 * 1024 + n % 1024) * 1 + 0 % 1 = (off + i) % 32 * 1024 + n % 1024
    omega
  refine extractStridedSlice_apply _ _ _ _ (hfx (off + i) n) fun x => ?_
  match x with
  | 0 => show (off + i) % 32 = 0 + (off + i) % 32; omega
  | 1 => show n % 1024 = 0 + n % 1024; omega
  | 2 => rfl

theorem xT_eq (b n c : ℕ) (hb : b < 32) (hn : n < 1024) (hc : c < 768) : xT a (cix b n c) = a (aix b c (n / 32) (n % 32)) := by
  refine (shapeCast_apply _ _ _ (bix4 b c (n / 32) (n % 32)) ?_).trans ?_
  · rw [Shape.rowMajor_val_four, Shape.rowMajor_val_three]
    show ((b % 32 * 32 + n / 32 % 32) * 32 + n % 32 % 32) * 768 + c % 768 = (b % 32 * 1024 + n % 1024) * 768 + c % 768
    omega
  refine transpose_apply _ _ _ _ (aix b c (n / 32) (n % 32)) fun x => ?_
  match x with
  | 0 => rfl
  | 1 => rfl
  | 2 => rfl
  | 3 => rfl

/-- The reference's value: the key of the chosen entry, its bits at `lo` cleared, back as a float. -/
theorem coarse_eq (r off : ℕ) [NeZero r] (hs h0 h1) (lo hi : BitVec 32) (hr : off + r ≤ 32) (hhi : hi = ~~~lo) (hlo : lo.getLsbD 31 = false)
    (i : (Rows1 r).Idx) : coarse a r off hs h0 h1 lo hi i = keyOf (keyOf (half a (hfx (off + (i 0).val) (i 2).val)) &&& hi) := by
  have e0 : (i 0).val < r := (i 0).isLt
  have e2 : (i 2).val < 1024 := (i 2).isLt
  subst hhi
  rw [cleared _ _ hlo, ← pick_eq a r off hs _ _ e0 hr e2]
  refine (broadcastInDim_apply _ _ _ _ (rowix r (i 0).val (i 2).val) fun x => ?_).trans ?_
  · match x with
    | 0 =>
      show (i 0).val % r = if r = 1 then 0 else (i 0).val
      rw [Nat.mod_eq_of_lt e0]
      split <;> omega
    | 1 => exact Nat.mod_eq_of_lt (i 2).isLt
  show select (cmpi .slt _ _) _ _ (rowix r (i 0).val (i 2).val) = _
  rw [select_eq]
  refine if_congr ((slt_iff _ _).trans ?_) rfl rfl
  exact Iff.rfl

/-! ## The kernel's value is the reference's -/

theorem X_eq (b c n : ℕ) (hb : b < 32) (hc : c < 768) (hn : n < 1024) :
    shapeCast Cert.Kernel.S32x768x1024 a Cert.Kernel.Gen.shapeCasts_S32x768x32x32_S32x768x1024 (xix b c n) = xT a (cix b n c) := by
  rw [xT_eq a b n c hb hn hc]
  refine shapeCast_apply _ _ _ (aix b c (n / 32) (n % 32)) ?_
  rw [Shape.rowMajor_val_four, Shape.rowMajor_val_three]
  show ((b % 32 * 768 + c % 768) * 32 + n / 32 % 32) * 32 + n % 32 % 32 = (b % 32 * 768 + c % 768) * 1024 + n % 1024
  omega

/-- The keys of the column an output element is the threshold of. -/
theorem keys_block (x : Cert.Kernel.S32x768x1024.Idx → BitVec 32) (i n c : ℕ) (hn : n < 1024) (hc : c < 768) :
    keys (F := Bits) (block (F := Bits) x (8 * i + n / 128)) (n % 128 / 16) c (lane (n % 128)) = keyOf (x (xix (20 + i) c n)) := by
  show keyOf (x (xix (20 + (8 * i + n / 128) / 8) (c % 768) (128 * ((8 * i + n / 128) % 8) + (16 * (n % 128 / 16) + n % 128 % 16) % 128))) = _
  rw [show (8 * i + n / 128) / 8 = i by omega, show c % 768 = c by omega,
    show 128 * ((8 * i + n / 128) % 8) + (16 * (n % 128 / 16) + n % 128 % 16) % 128 = n by omega]

theorem G_eq (i : Cert.Kernel.S12x1x1024.Idx) :
    G (F := Bits) (shapeCast Cert.Kernel.S32x768x1024 a Cert.Kernel.Gen.shapeCasts_S32x768x32x32_S32x768x1024) i = value a i := by
  have h0 : (i 0).val < 12 := (i 0).isLt
  have h2 : (i 2).val < 1024 := (i 2).isLt
  refine Eq.trans ?_ (coarse_eq a 12 20 _ _ _ _ _ (by decide) (by decide) (by decide) i).symm
  obtain ⟨r1, r2⟩ := topK_entry (xT a) (20 + (i 0).val) (i 2).val (hfx (20 + (i 0).val) (i 2).val) sliceFits_S32x1024x768_S32x1024x384
    (Nat.mod_eq_of_lt (by omega)) (Nat.mod_eq_of_lt (by omega)) rfl
  have hk : ∀ c ∈ Finset.range 768, keys (F := Bits) (block (F := Bits) (shapeCast Cert.Kernel.S32x768x1024 a
      Cert.Kernel.Gen.shapeCasts_S32x768x32x32_S32x768x1024) (8 * (i 0).val + (i 2).val / 128)) ((i 2).val % 128 / 16) c (lane ((i 2).val % 128))
      = keyOf (xT a (cix (20 + (i 0).val) (i 2).val c)) := fun c hc => by
    have hc' := Finset.mem_range.mp hc
    rw [keys_block _ _ _ _ h2 hc', X_eq a _ _ _ (by omega) hc' h2]
  show keyOf (keyT (keys (F := Bits) (block (F := Bits) _ (8 * (i 0).val + (i 2).val / 128)) ((tix ((i 2).val % 128) 0).val / 16))
    (lane (tix ((i 2).val % 128) 0).val)) = _
  rw [show (tix ((i 2).val % 128) 0).val = (i 2).val % 128 from Nat.mod_eq_of_lt (Nat.mod_lt _ (by decide))]
  refine congrArg keyOf (keyT_eq (r1.trans_eq ?_) (Eq.trans_lt ?_ r2))
  · exact congrArg Finset.card (Finset.filter_congr fun c hc => by rw [hk c hc])
  · exact congrArg Finset.card (Finset.filter_congr fun c hc => by rw [hk c hc])

end Value

end Cert.Proof.Thr

end
-- ==== Proof.DenseVal.lean ====
/-
  What the dense threshold call leaves in its result, and that it is the reference's value.

  The call fixes the key of rank 384 in a column bit by bit from the top: a bit is set if at least 384 of the 768 keys are
  still at or above the prefix with it. A word `x` has at least 384 keys at or above it just when it is at most the key
  `w` of that rank (`fits_iff`), so the search is an ordinary binary search for `w`: before trip n the prefix p is a
  multiple of 2^(31-n) with p ≤ w < p + 2^(31-n) (`At`). Sixteen trips leave the upper seventeen bits of `w`.
-/
module

public import proofs.«01_k».proof.Proof.Ref
public import proofs.«01_k».proof.Proof.Gen.Dense.Value
public import proofs.«01_k».proof.Proof.Gen.DenseReference.Run
public import Idealize.ShloMosaic.Lib.IndicatorCount

@[expose] public section

noncomputable section

namespace Cert.Proof.Dns

open Cert.Dense Cert.Dense.Gen Cert.Dense.Value Idealize.ShloMosaic Idealize.ShloMosaic.TcCoe Idealize.SL.Sem
open Cert.Proof.Thr (keyOf slt_iff sge_iff ofBool_eq_one toInt_small card_range card_lt_of_imp le_card_of_imp select_eq)

/-! ## The search on words -/

/-- How many of a column's keys are `x` or more. -/
def count (ks : ℕ → BitVec 32) (x : BitVec 32) : ℕ := ((Finset.range 768).filter fun c => x.toInt ≤ (ks c).toInt).card

/-- `w` has at least 384 of the column's keys at or above it and fewer than 384 above it. -/
def Rank (ks : ℕ → BitVec 32) (w : BitVec 32) : Prop :=
  384 ≤ count ks w ∧ ((Finset.range 768).filter fun c => w.toInt < (ks c).toInt).card < 384

theorem fits_iff {ks : ℕ → BitVec 32} {w : BitVec 32} (h : Rank ks w) (x : BitVec 32) : 384 ≤ count ks x ↔ x.toInt ≤ w.toInt := by
  constructor
  · intro hx
    by_contra hlt
    have := card_lt_of_imp h.2 (q := fun c => x.toInt ≤ (ks c).toInt) fun c hc => by omega
    exact absurd hx (not_le.mpr this)
  · intro hx
    exact le_card_of_imp h.1 fun c hc => by omega

/-- The prefix before trip `n`. -/
def At (w : BitVec 32) (n : ℕ) (p : BitVec 32) : Prop :=
  (∃ q : ℤ, p.toInt = 2 ^ (31 - n) * q) ∧ p.toInt ≤ w.toInt ∧ w.toInt < p.toInt + 2 ^ (31 - n)

theorem at_zero (w : BitVec 32) : At w 0 (if (0#32).toInt ≤ w.toInt then 0#32 else 2147483648#32) := by
  have h1 := BitVec.toInt_lt (x := w)
  have h2 := BitVec.le_toInt (x := w)
  have e0 : (0#32).toInt = 0 := rfl
  have e1 : (2147483648#32).toInt = -2147483648 := by decide
  unfold At
  split
  · exact ⟨⟨0, by rw [e0]; rfl⟩, by omega, by rw [e0]; omega⟩
  · exact ⟨⟨-1, by rw [e1]; rfl⟩, by rw [e1]; omega, by rw [e1]; omega⟩

theorem toInt_add_of {p b : BitVec 32} (h : p.toInt + b.toInt < 2 ^ 31) (hb : 0 ≤ b.toInt) : (p + b).toInt = p.toInt + b.toInt := by
  have e1 := BitVec.toInt_eq_toNat_cond p
  have e2 := BitVec.toInt_eq_toNat_cond b
  have e3 := BitVec.toInt_eq_toNat_cond (p + b)
  have := p.isLt
  have := b.isLt
  rw [BitVec.toNat_add] at e3
  split at e1 <;> split at e2 <;> split at e3 <;> omega

theorem at_succ {w p b : BitVec 32} {n : ℕ} (hn : n < 16) (hb : b.toInt = 2 ^ (30 - n)) (h : At w n p) :
    At w (n + 1) (if (p + b).toInt ≤ w.toInt then p + b else p) := by
  obtain ⟨⟨q, hq⟩, h1, h2⟩ := h
  have hw := BitVec.toInt_lt (x := w)
  have e : (2 : ℤ) ^ (31 - n) = 2 * 2 ^ (30 - n) := by rw [show 31 - n = 30 - n + 1 by omega, pow_succ, mul_comm]
  have eK : (2 : ℤ) ^ 31 = 2 ^ (31 - n) * 2 ^ n := by rw [← pow_add]; congr 1; omega
  have hM : (0 : ℤ) < 2 ^ (31 - n) := by positivity
  have hp : p.toInt + 2 ^ (31 - n) ≤ 2 ^ 31 := by
    have hlt : (2 : ℤ) ^ (31 - n) * q < 2 ^ (31 - n) * 2 ^ n := by rw [← hq, ← eK]; omega
    have hle : q + 1 ≤ 2 ^ n := lt_of_mul_lt_mul_left hlt hM.le
    have := mul_le_mul_of_nonneg_left hle hM.le
    rw [eK, hq]
    linarith
  have hb0 : 0 < b.toInt := by rw [hb]; positivity
  have hs : (p + b).toInt = p.toInt + b.toInt := toInt_add_of (by omega) (by omega)
  unfold At
  rw [show 31 - (n + 1) = 30 - n by omega]
  split
  · rename_i hc
    exact ⟨⟨2 * q + 1, by rw [hs, hb, hq, e]; ring⟩, hc, by omega⟩
  · rename_i hc
    exact ⟨⟨2 * q, by rw [hq, e]; ring⟩, h1, by omega⟩

theorem upper (w : BitVec 32) : (w &&& 4294934528#32).toNat = w.toNat / 32768 * 32768 := by
  have e : w &&& 4294934528#32 = (w >>> 15) <<< 15 := by
    apply BitVec.eq_of_getLsbD_eq
    intro i hi
    have hm : (4294934528#32).getLsbD i = decide (15 ≤ i) := by revert i; decide
    rw [BitVec.getLsbD_and, hm, BitVec.getLsbD_shiftLeft, BitVec.getLsbD_ushiftRight]
    rcases Nat.lt_or_ge i 15 with h | h
    · simp [h, show ¬ 15 ≤ i by omega]
    · simp [h, hi, show ¬ i < 15 by omega, show 15 + (i - 15) = i by omega]
  rw [e, BitVec.toNat_shiftLeft, BitVec.toNat_ushiftRight, Nat.shiftRight_eq_div_pow, Nat.shiftLeft_eq]
  have := w.isLt
  omega

theorem at_end {w p : BitVec 32} (h : At w 16 p) : p = w &&& 4294934528#32 := by
  obtain ⟨⟨q, hq⟩, h1, h2⟩ := h
  apply BitVec.eq_of_toNat_eq
  rw [upper]
  rw [show (2 : ℤ) ^ (31 - 16) = 32768 from rfl] at hq h2
  rw [BitVec.toInt_eq_toNat_cond] at hq h1 h2
  rw [BitVec.toInt_eq_toNat_cond] at h1 h2
  have := p.isLt
  have := w.isLt
  split at hq <;> split at h1 <;> omega

/-! ## The kernel's search -/

def bix (c l : ℕ) : S1x768x512.Idx := fun | 0 => Fin.ofNat 1 0 | 1 => Fin.ofNat 768 c | 2 => Fin.ofNat 512 l
def kix (c l : ℕ) : S768x512.Idx := fun | 0 => Fin.ofNat 768 c | 1 => Fin.ofNat 512 l
def oix (l : ℕ) : S1x512.Idx := fun | 0 => Fin.ofNat 1 0 | 1 => Fin.ofNat 512 l
def lix (l : ℕ) : S512.Idx := fun | 0 => Fin.ofNat 512 l

/-- The keys of column `l` of a block. -/
def col (v : Vec Bits S1x768x512 .f32) (l : ℕ) (c : ℕ) : BitVec 32 := keyOf (v (bix c l))

variable (v : Vec Bits S1x768x512 .f32) (l : ℕ)

theorem pay1_eq (c : ℕ) : k0_pay1 v (kix c l) = col v l c := by
  show keyOf (shapeCast S768x512 v shapeCasts_S1x768x512_S768x512 (kix c l)) = _
  refine congrArg keyOf (shapeCast_apply _ _ _ (bix c l) ?_)
  rw [Shape.rowMajor_val_three, Shape.rowMajor_val_two]
  show (0 % 1 * 768 + c % 768) * 512 + l % 512 = c % 768 * 512 + l % 512
  omega

theorem lift_eq (k : Fin 768) : reduces_S768x512_S512.lift (lix l) k = kix k.val l := by
  funext a
  apply Fin.ext
  match a with
  | 0 => exact (Nat.mod_eq_of_lt k.isLt).symm
  | 1 => rfl

/-- The sum down a column of the bits that say a key is at least `x`, against 384. -/
theorem enough_eq (x : IVec S768x512 32) (y : BitVec 32) (hx : ∀ c, x (kix c l) = y) :
    (cmpi .sge (shapeCast S1x512 (multiReductionI .add [0] S512 (extui 32 (cmpi .sge (k0_pay1 v) x) natLt_1_32) 0#32 reduces_S768x512_S512 rfl)
      shapeCasts_S512_S1x512) (broadcast S1x512 384#32) (oix l) = 1#1) ↔ 384 ≤ count (col v l) y := by
  have e : shapeCast S1x512 (multiReductionI .add [0] S512 (extui 32 (cmpi .sge (k0_pay1 v) x) natLt_1_32) 0#32 reduces_S768x512_S512 rfl)
      shapeCasts_S512_S1x512 (oix l) = BitVec.ofNat 32 (count (col v l) y) := by
    refine (shapeCast_apply _ _ _ (lix l) ?_).trans ?_
    · rw [Shape.rowMajor_val_one, Shape.rowMajor_val_two]
      show l % 512 = 0 % 1 * 512 + l % 512
      omega
    refine (multiReductionI_eq_fold _ _ _ _ _ _).trans ((reduces_S768x512_S512.fold_filter_drop_single _ _ _ _).trans ?_)
    refine (IndicatorCount.fold_addi_setWidth_eq_card (w := 32)
      (fun k : Fin 768 => cmpi .sge (k0_pay1 v) x (reduces_S768x512_S512.lift (lix l) k)) Finset.univ).trans ?_
    refine congrArg (BitVec.ofNat 32) (Eq.trans ?_ (card_range fun c => y.toInt ≤ (col v l c).toInt))
    refine congrArg Finset.card (Finset.filter_congr fun k _ => ?_)
    rw [lift_eq]
    show IntOp.cmpi .sge (k0_pay1 v (kix k.val l)) (x (kix k.val l)) = 1#1 ↔ _
    rw [sge_iff, hx, pay1_eq]
  have hc : count (col v l) y ≤ 768 := (Finset.card_filter_le _ _).trans (Finset.card_range 768).le
  show IntOp.cmpi .sge _ 384#32 = 1#1 ↔ _
  rw [sge_iff, e, toInt_small (x := BitVec.ofNat 32 (count (col v l) y)) (by rw [BitVec.toNat_ofNat]; omega), BitVec.toNat_ofNat, show (384#32).toInt = 384 from rfl]
  omega

theorem pay2_eq : k0_pay2 v (oix l) = if 384 ≤ count (col v l) 0#32 then 0#32 else 2147483648#32 :=
  (select_eq _ _ _ (oix l)).trans (if_congr (enough_eq v l _ 0#32 fun _ => rfl) rfl rfl)

/-- The bit that trip `k` tries. -/
def bit (k : Fin k0_t1_loop.trips) : BitVec 32 := Scalar.shli 1#32 (Scalar.subi 30#32 (Scf.iv 0#32 1#32 k))

theorem trips_eq : k0_t1_loop.trips = 16 := by decide +kernel
theorem bit_eq : ∀ k : Fin k0_t1_loop.trips, (bit k).toInt = 2 ^ (30 - k.val) := by decide +kernel

theorem pay3_eq (k : Fin k0_t1_loop.trips) (p : IVec S1x512 32) :
    k0_pay3 v k p (oix l) = if 384 ≤ count (col v l) (p (oix l) + bit k) then p (oix l) + bit k else p (oix l) := by
  refine (select_eq _ _ _ (oix l)).trans (if_congr (enough_eq v l _ (p (oix l) + bit k) fun c => ?_) rfl rfl)
  refine broadcastTo_apply _ _ _ (oix l) fun a => ?_
  match a with
  | 0 => rfl
  | 1 => rfl

theorem fold_rec {σ : Type} {n : ℕ} (g : Fin n → σ → σ) (init : σ) (P : ℕ → σ → Prop) (h0 : P 0 init)
    (hs : ∀ (k : Fin n) acc, P k.val acc → P (k.val + 1) (g k acc)) : P n (Scf.fold g init) := by
  rw [Scf.fold_eq]
  suffices H : ∀ m (hm : m ≤ n), P m ((List.finRange m).foldl (fun acc k => g (k.castLE hm) acc) init) from H n le_rfl
  intro m
  induction m with
  | zero => exact fun _ => h0
  | succ m ih =>
    intro hm
    rw [List.finRange_succ_last, List.foldl_append, List.foldl_map]
    exact hs ⟨m, hm⟩ _ (ih (by omega))

/-- What the loop leaves: in each column the upper seventeen bits of the key of rank 384. -/
theorem fold_at (w : BitVec 32) (h : Rank (col v l) w) :
    Scf.fold (fun k acc => k0_pay3 v k acc) (k0_pay2 v) (oix l) = w &&& 4294934528#32 := by
  refine at_end ?_
  have := fold_rec (fun k acc => k0_pay3 v k acc) (k0_pay2 v) (fun n p => At w n (p (oix l))) ?_ ?_
  · exact (show ∀ n z, n = 16 → At w n z → At w 16 z from fun _ _ e => e ▸ id) _ _ trips_eq this
  · show At w 0 (k0_pay2 v (oix l))
    rw [pay2_eq, if_congr (fits_iff h _) rfl rfl]
    exact at_zero w
  · intro k p hp
    have hk : k.val < 16 := k.isLt.trans_eq trips_eq
    show At w (k.val + 1) (k0_pay3 v k p (oix l))
    rw [pay3_eq, if_congr (fits_iff h _) rfl rfl]
    exact at_succ hk (bit_eq k) hp

def tix (l : ℕ) : S1x1x512.Idx := fun | 0 => Fin.ofNat 1 0 | 1 => Fin.ofNat 1 0 | 2 => Fin.ofNat 512 l

theorem pay4_eq (p : IVec S1x512 32) : k0_pay4 (F := Bits) p (tix l) = keyOf (p (oix l)) := by
  refine (shapeCast_apply (bitcastToFloat (F := Bits) .f32 (xori p (andi (broadcast S1x512 2147483647#32) (shrsi p (broadcast S1x512 31#32)))))
    shapeCasts_S1x512_S1x1x512 (tix l) (oix l) ?_).trans rfl
  rw [Shape.rowMajor_val_two, Shape.rowMajor_val_three]
  show 0 % 1 * 512 + l % 512 = (0 % 1 * 1 + 0 % 1) * 512 + l % 512
  omega

/-! ## What a grid point leaves in its block -/

theorem hz : (![0, 0, 0] : Fin 3 → Nat) = fun _ => 0 := funext fun a => by match a with | 0 => rfl | 1 => rfl | 2 => rfl

theorem out_eq (c : Dev nD) (i : grid0.Coords) (arg2 : Memref sig .tc .vmem S1x768x512 .f32) (h2 : arg2.IsWhole)
    (arg3 : Memref sig .tc .vmem S1x1x512 .f32) (h3 : arg3.IsWhole) (x : Vec Bits S1x768x512 .f32) :
    out0_A_1 c i arg2 h2 arg3 h3 x = k0_pay4 (F := Bits) (Scf.fold (fun k acc => k0_pay3 x k acc) (k0_pay2 x)) := by
  unfold out0_A_1
  rw [View.read_writes_junk_eq_canon]
  have e : View.readAt (Elt Bits) arg2.view (Rect.unit (s := S1x768x512) ![0, 0, 0] S1x768x512.size inb_S1x768x512_S1x768x512_0_0_0).toLoadRect (h2.unread x) = x := by
    rw [View.readAt_eq_ld, h2.read_unread, View.ld_unit_zero hz]
  show View.canon ([⟨Rect.unit (s := S1x1x512) ![0, 0, 0] S1x1x512.size inb_S1x1x512_S1x1x512_0_0_0,
      k0_pay4 (F := Bits) (Scf.fold (fun k acc => k0_pay3 (View.readAt (Elt Bits) arg2.view
          (Rect.unit (s := S1x768x512) ![0, 0, 0] S1x768x512.size inb_S1x768x512_S1x768x512_0_0_0).toLoadRect (h2.unread x)) k acc)
        (k0_pay2 (View.readAt (Elt Bits) arg2.view
          (Rect.unit (s := S1x768x512) ![0, 0, 0] S1x768x512.size inb_S1x768x512_S1x768x512_0_0_0).toLoadRect (h2.unread x))))⟩] :
      List (View.Piece (Elt Bits) S1x1x512 .f32)) = _
  rw [e, View.canon_unit_zero hz]

/-! ## From the blocks to the array -/

open Cert.Proof.Thr (coarse half hfx cix xT)

variable (m : (ℓ : Loc nD τ sig) → Buf (Elt Bits) ℓ) (ρ : Dev nD → PrngReg)

theorem N_eq : cfg0.N = 40 := by decide +kernel

theorem ix0 : ∀ t : Fin cfg0.N, win0_0.index t (0 : Fin 3) = t.val / 2 ∧ win0_0.index t (1 : Fin 3) = 0 ∧ win0_0.index t (2 : Fin 3) = t.val % 2 :=
  (by decide +kernel : ∀ t : Fin grid0.N, _)
theorem ix1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)

/-- Where the result holds the threshold of column `n` of row `b`. -/
def dix (b n : ℕ) : S20x1x1024.Idx := fun | 0 => Fin.ofNat 20 b | 1 => Fin.ofNat 1 0 | 2 => Fin.ofNat 1024 n

/-- Grid point `t` works on half of row `t / 2`: the columns from `512 * (t % 2)` on. -/
theorem emb0 (t : Fin cfg0.N) (c l : ℕ) (hl : l < 512) :
    ((cfg0.win 0).blk t).view.emb (bix c l) = Thr.xix (t.val / 2) c (512 * (t.val % 2) + l) := by
  obtain ⟨e0, e1, e2⟩ := ix0 t
  have ht : t.val < 40 := t.isLt.trans_eq N_eq
  funext a; apply Fin.ext
  match a with
  | ⟨0, _⟩ => show win0_0.index t (0 : Fin 3) * 1 + 1 * (0 % 1) = t.val / 2 % 32; omega
  | ⟨1, _⟩ => show win0_0.index t (1 : Fin 3) * 768 + 1 * (c % 768) = c % 768; omega
  | ⟨2, _⟩ => show win0_0.index t (2 : Fin 3) * 512 + 1 * (l % 512) = (512 * (t.val % 2) + l) % 1024; omega

theorem emb1 (t : Fin cfg0.N) (l : ℕ) (hl : l < 512) :
    ((cfg0.win 1).blk t).view.emb (tix l) = dix (t.val / 2) (512 * (t.val % 2) + l) := by
  obtain ⟨e0, e1, e2⟩ := ix1 t
  have ht : t.val < 40 := t.isLt.trans_eq N_eq
  funext a; apply Fin.ext
  match a with
  | ⟨0, _⟩ => show win0_1.index t (0 : Fin 3) * 1 + 1 * (0 % 1) = t.val / 2 % 20; omega
  | ⟨1, _⟩ => show win0_1.index t (1 : Fin 3) * 1 + 1 * (0 % 1) = 0 % 1; omega
  | ⟨2, _⟩ => show win0_1.index t (2 : Fin 3) * 512 + 1 * (l % 512) = (512 * (t.val % 2) + l) % 1024; omega

/-- The columns as the grid finds them: the argument, its two last axes as one. -/
theorem V_main_v0 (c : Dev nD) : V m c main_v0
    = shapeCast S32x768x1024 (m ((c : Thread nD τ).loc main_arg0)) shapeCasts_S32x768x32x32_S32x768x1024 := by
  show StableHlo.after hostOps0 (fun b => m (c, b)) (Proc.devRef .tc main_v0) = _
  rw [StableHlo.after_cons, StableHlo.after_nil, StableHlo.reshape_result]
  rfl

/-- The reference's thresholds of the first twenty rows. -/
abbrev value (a : Cert.Reference.S32x768x32x32.Idx → BitVec 32) : S20x1x1024.Idx → BitVec 32 :=
  coarse a 20 0 Cert.DenseReference.Gen.slices_S32x1024_S20x1024_0_0 Cert.DenseReference.Gen.bcast_S_S20x1024
    Cert.DenseReference.Gen.bcast_S20x1024_S20x1x1024_0_2 32767#32 4294934528#32

theorem value_eq (a : Cert.Reference.S32x768x32x32.Idx → BitVec 32) (b n : ℕ) (hb : b < 20) (hn : n < 1024) :
    value a (dix b n) = keyOf (keyOf (half a (hfx b n)) &&& 4294934528#32) := by
  refine (Thr.coarse_eq a 20 0 _ _ _ _ _ (by decide) (by decide) (by decide) (dix b n)).trans ?_
  show keyOf (keyOf (half a (hfx (0 + b % 20) (n % 1024))) &&& _) = _
  rw [Nat.zero_add, Nat.mod_eq_of_lt hb, Nat.mod_eq_of_lt hn]

/-- The keys of a column of grid point `t`'s block, and that the reference's entry has rank 384 among them. -/
theorem rank_block (c : Dev nD) (t : Fin cfg0.N) (l : ℕ) (hl : l < 512) :
    Rank (col (iblk m c 0 t) l) (keyOf (half (m ((c : Thread nD τ).loc main_arg0)) (hfx (t.val / 2) (512 * (t.val % 2) + l)))) := by
  have ht : t.val < 40 := t.isLt.trans_eq N_eq
  obtain ⟨r1, r2⟩ := Thr.topK_entry (xT (m ((c : Thread nD τ).loc main_arg0))) (t.val / 2) (512 * (t.val % 2) + l) (hfx (t.val / 2) (512 * (t.val % 2) + l))
    Cert.Reference.Gen.sliceFits_S32x1024x768_S32x1024x384 (Nat.mod_eq_of_lt (by omega)) (Nat.mod_eq_of_lt (by omega)) rfl
  have hk : ∀ k ∈ Finset.range 768, col (iblk m c 0 t) l k = keyOf (xT (m ((c : Thread nD τ).loc main_arg0)) (cix (t.val / 2) (512 * (t.val % 2) + l) k)) := by
    intro k hk
    refine congrArg keyOf ?_
    show V m c main_v0 (((cfg0.win 0).blk t).view.emb (bix k l)) = _
    rw [emb0 t k l hl, V_main_v0]
    exact Thr.X_eq _ _ _ _ (by omega) (Finset.mem_range.mp hk) (by omega)
  refine ⟨r1.trans_eq ?_, Eq.trans_lt ?_ r2⟩
  · exact congrArg Finset.card (Finset.filter_congr fun k h => by rw [hk k h])
  · exact congrArg Finset.card (Finset.filter_congr fun k h => by rw [hk k h])

theorem tix_self (j : S1x1x512.Idx) : j = tix (j 2).val := funext fun a => Fin.ext (by
  match a with
  | 0 => have : (j 0).val < 1 := (j 0).isLt; show (j 0).val = 0; omega
  | 1 => have : (j 1).val < 1 := (j 1).isLt; show (j 1).val = 0; omega
  | 2 => exact (Nat.mod_eq_of_lt (j 2).isLt).symm)

theorem dix_self (i : S20x1x1024.Idx) : i = dix (i 0).val (i 2).val := funext fun a => Fin.ext (by
  match a with
  | 0 => exact (Nat.mod_eq_of_lt (i 0).isLt).symm
  | 1 => have : (i 1).val < 1 := (i 1).isLt; show (i 1).val = 0; omega
  | 2 => exact (Nat.mod_eq_of_lt (i 2).isLt).symm)

theorem block_eq (c : Dev nD) (t : Fin cfg0.N) (l : ℕ) (hl : l < 512) :
    k0_pay4 (F := Bits) (Scf.fold (fun k acc => k0_pay3 (iblk m c 0 t) k acc) (k0_pay2 (iblk m c 0 t))) (tix l)
      = value (m ((c : Thread nD τ).loc main_arg0)) (((cfg0.win 1).blk t).view.emb (tix l)) := by
  have ht : t.val < 40 := t.isLt.trans_eq N_eq
  rw [pay4_eq, fold_at _ _ _ (rank_block m c t l hl), emb1 t l hl, value_eq _ _ _ (by omega) (by omega)]

theorem flushed_eq (c : Dev nD) (t : Fin cfg0.N) :
    (dats m 0 c).flushed 1 t = ((cfg0.win 1).blk t).view.read (Elt Bits) (value (m ((c : Thread nD τ).loc main_arg0))) := by
  rw [flushed1_A, out_eq]
  funext j
  have e := tix_self j
  rw [e]
  exact block_eq m c t (j 2).val (j 2).isLt

theorem covered (i : S20x1x1024.Idx) : ∃ t : Fin cfg0.N, (cfg0.win 1).flush t = true ∧ i ∈ ((cfg0.win 1).blk t).view.set := by
  have h0 : (i 0).val < 20 := (i 0).isLt
  have h2 : (i 2).val < 1024 := (i 2).isLt
  obtain ⟨t, ht⟩ : ∃ t : Fin cfg0.N, t.val = 2 * (i 0).val + (i 2).val / 512 := ⟨⟨2 * (i 0).val + (i 2).val / 512, by rw [N_eq]; omega⟩, rfl⟩
  refine ⟨t, flush0_1 t, ?_⟩
  have h := ((cfg0.win 1).blk t).view.emb_mem_set (tix ((i 2).val % 512))
  rwa [emb1 t _ (Nat.mod_lt _ (by decide)), show t.val / 2 = (i 0).val by omega,
    show 512 * (t.val % 2) + (i 2).val % 512 = (i 2).val by omega, ← dix_self i] at h

/-- The kernel's run, its result the reference's value of the argument. -/
theorem run : θ_run defs (onTc (τ := τ) (main (F := Bits))) ⟨m, fun _ => 0, ρ⟩ fun r => ∀ c : Dev nD,
      r.2.mem ((c : Thread nD τ).loc main_v1) = value (m ((c : Thread nD τ).loc main_arg0))
      ∧ r.2.mem ((c : Thread nD τ).loc main_arg0) = m ((c : Thread nD τ).loc main_arg0) :=
  (θ_run defs _ _).mono (fun _ h c => ⟨(h c).1.trans ((dats m 0 c).arrAt_eq_of_cover 1 _ (fun t _ => flushed_eq m c t) covered), (h c).2⟩)
    (Cert.Dense.Value.run_blocks m ρ)

end Cert.Proof.Dns

end
-- ==== Proof.MaskVal.lean ====
/-
  What the mask call leaves in its result, as one function `G` of the columns and the thresholds it is given, and the
  reference's composed term at an index: the two are the same. At any float values.

  Grid point t works on row t whole: its input blocks are row t of the columns and row t of the thresholds (`ix_in`), and
  it writes row t of the result (`flushed_eq`). Every index of the result is in some row (`covered`).
-/
module

public import proofs.«01_k».proof.Proof.Gen.MaskIdeal.Value
public import proofs.«01_k».proof.Proof.Gen.MaskReferenceIdeal.Run

@[expose] public section

noncomputable section

namespace Cert.Proof.Msk

open Cert.MaskIdeal Cert.MaskIdeal.Gen Cert.MaskIdeal.Value Idealize.ShloMosaic Idealize.ShloMosaic.TcCoe Idealize.SL.Sem

variable {F : FTy → Type} [FloatOps F]

/-- Where the thresholds hold the one of column `n` of row `b`, and where the columns hold entry `c` of it. -/
def tix (b n : ℕ) : S32x1x1024.Idx := fun | 0 => Fin.ofNat 32 b | 1 => Fin.ofNat 1 0 | 2 => Fin.ofNat 1024 n
def xix (b c n : ℕ) : S32x768x1024.Idx := fun | 0 => Fin.ofNat 32 b | 1 => Fin.ofNat 768 c | 2 => Fin.ofNat 1024 n
def aix (b c p q : ℕ) : S32x768x32x32.Idx := fun | 0 => Fin.ofNat 32 b | 1 => Fin.ofNat 768 c | 2 => Fin.ofNat 32 p | 3 => Fin.ofNat 32 q

/-- An entry is kept if it is at least its column's threshold, else zero, and nothing below zero is left. -/
def keep (x t : F .f32) : F .f32 :=
  FloatOps.maximumf (Scalar.select (FloatOps.cmpf .oge x t) x (Scalar.ofBits .f32 0x00000000#32)) (Scalar.ofBits .f32 0x00000000#32)

def G (x : Vec F S32x768x1024 .f32) (t : Vec F S32x1x1024 .f32) : Vec F S32x768x1024 .f32 := fun i =>
  keep (x i) (t (tix (i 0).val (i 2).val))

theorem xix_self (i : S32x768x1024.Idx) : i = xix (i 0).val (i 1).val (i 2).val := funext fun a => Fin.ext (by
  match a with
  | 0 => exact (Nat.mod_eq_of_lt (i 0).isLt).symm
  | 1 => exact (Nat.mod_eq_of_lt (i 1).isLt).symm
  | 2 => exact (Nat.mod_eq_of_lt (i 2).isLt).symm)

/-! ## The kernel's run -/

variable (m : (ℓ : Loc nD τ sig) → Buf (Elt F) ℓ) (ρ : Dev nD → PrngReg)

theorem hz : (![0, 0, 0] : Fin 3 → Nat) = fun _ => 0 := funext fun a => by match a with | 0 => rfl | 1 => rfl | 2 => rfl

theorem ix0 : ∀ t : Fin cfg0.N, win0_0.index t (0 : Fin 3) = t.val ∧ win0_0.index t (1 : Fin 3) = 0 ∧ win0_0.index t (2 : Fin 3) = 0 :=
  (by decide +kernel : ∀ t : Fin grid0.N, _)
theorem ix1 : ∀ t : Fin cfg0.N, win0_1.index t (0 : Fin 3) = t.val ∧ win0_1.index t (1 : Fin 3) = 0 ∧ win0_1.index t (2 : Fin 3) = 0 :=
  (by decide +kernel : ∀ t : Fin grid0.N, _)
theorem ix2 : ∀ t : Fin cfg0.N, win0_2.index t (0 : Fin 3) = t.val ∧ win0_2.index t (1 : Fin 3) = 0 ∧ win0_2.index t (2 : Fin 3) = 0 :=
  (by decide +kernel : ∀ t : Fin grid0.N, _)

theorem N_eq : cfg0.N = 32 := by decide +kernel

/-- Block `t` of each window is row `t` of its array. -/
theorem emb0 (t : Fin cfg0.N) (j : S1x768x1024.Idx) : ((cfg0.win 0).blk t).view.emb j = xix t.val (j 1).val (j 2).val := by
  obtain ⟨e0, e1, e2⟩ := ix0 t
  have ht : t.val < 32 := t.isLt.trans_eq N_eq
  have h0 : (j 0).val < 1 := (j 0).isLt
  have h1 : (j 1).val < 768 := (j 1).isLt
  have h2 : (j 2).val < 1024 := (j 2).isLt
  funext a; apply Fin.ext
  match a with
  | ⟨0, _⟩ => show win0_0.index t (0 : Fin 3) * 1 + 1 * (j 0).val = t.val % 32; omega
  | ⟨1, _⟩ => show win0_0.index t (1 : Fin 3) * 768 + 1 * (j 1).val = (j 1).val % 768; omega
  | ⟨2, _⟩ => show win0_0.index t (2 : Fin 3) * 1024 + 1 * (j 2).val = (j 2).val % 1024; omega

theorem emb1 (t : Fin cfg0.N) (j : S1x1x1024.Idx) : ((cfg0.win 1).blk t).view.emb j = tix t.val (j 2).val := by
  obtain ⟨e0, e1, e2⟩ := ix1 t
  have ht : t.val < 32 := t.isLt.trans_eq N_eq
  have h0 : (j 0).val < 1 := (j 0).isLt
  have h1 : (j 1).val < 1 := (j 1).isLt
  have h2 : (j 2).val < 1024 := (j 2).isLt
  funext a; apply Fin.ext
  match a with
  | ⟨0, _⟩ => show win0_1.index t (0 : Fin 3) * 1 + 1 * (j 0).val = t.val % 32; omega
  | ⟨1, _⟩ => show win0_1.index t (1 : Fin 3) * 1 + 1 * (j 1).val = 0 % 1; omega
  | ⟨2, _⟩ => show win0_1.index t (2 : Fin 3) * 1024 + 1 * (j 2).val = (j 2).val % 1024; omega

theorem emb2 (t : Fin cfg0.N) (j : S1x768x1024.Idx) : ((cfg0.win 2).blk t).view.emb j = xix t.val (j 1).val (j 2).val := by
  obtain ⟨e0, e1, e2⟩ := ix2 t
  have ht : t.val < 32 := t.isLt.trans_eq N_eq
  have h0 : (j 0).val < 1 := (j 0).isLt
  have h1 : (j 1).val < 768 := (j 1).isLt
  have h2 : (j 2).val < 1024 := (j 2).isLt
  funext a; apply Fin.ext
  match a with
  | ⟨0, _⟩ => show win0_2.index t (0 : Fin 3) * 1 + 1 * (j 0).val = t.val % 32; omega
  | ⟨1, _⟩ => show win0_2.index t (1 : Fin 3) * 768 + 1 * (j 1).val = (j 1).val % 768; omega
  | ⟨2, _⟩ => show win0_2.index t (2 : Fin 3) * 1024 + 1 * (j 2).val = (j 2).val % 1024; omega

/-- The columns as the grid finds them: the argument, its two last axes as one. -/
theorem V_main_v0 (c : Dev nD) : V m c main_v0
    = shapeCast S32x768x1024 (m ((c : Thread nD τ).loc main_arg0)) shapeCasts_S32x768x32x32_S32x768x1024 := by
  show StableHlo.after hostOps0 (fun b => m (c, b)) (Proc.devRef .tc main_v0) = _
  rw [StableHlo.after_cons, StableHlo.after_nil, StableHlo.reshape_result]
  rfl

/-- What grid point `t` leaves in its block. -/
theorem out_eq (c : Dev nD) (t : Fin cfg0.N) (j : S1x768x1024.Idx) :
    out0_2 (iblk m c 0 t) (iblk m c 1 t) j = G (V m c main_v0) (V m c main_arg1) (((cfg0.win 2).blk t).view.emb j) := by
  unfold out0_2
  rw [View.ld_unit_zero hz, View.ld_unit_zero hz]
  refine (canon2_eq (iblk m c 0 t) (iblk m c 1 t) j).trans ?_
  have hx : (iblk m c 0 t) (ix2_0 j) = V m c main_v0 (((cfg0.win 2).blk t).view.emb j) := by
    rw [emb2]; exact congrArg (V m c main_v0) (emb0 t (ix2_0 j))
  have ht : (iblk m c 1 t) (ix2_1 j) = V m c main_arg1 (tix t.val (j 2).val) := congrArg (V m c main_arg1) (emb1 t (ix2_1 j))
  have hN : t.val < 32 := t.isLt.trans_eq N_eq
  have h2 : (j 2).val < 1024 := (j 2).isLt
  have hr : tix ((((cfg0.win 2).blk t).view.emb j) 0).val ((((cfg0.win 2).blk t).view.emb j) 2).val = tix t.val (j 2).val := by
    rw [emb2]
    show tix (t.val % 32) ((j 2).val % 1024) = _
    rw [Nat.mod_eq_of_lt hN, Nat.mod_eq_of_lt h2]
  show keep ((iblk m c 0 t) (ix2_0 j)) ((iblk m c 1 t) (ix2_1 j)) = keep _ (V m c main_arg1 (tix _ _))
  rw [hr, hx, ht]

theorem flushed_eq (c : Dev nD) (t : Fin cfg0.N) :
    (dats m 0 c).flushed 2 t = ((cfg0.win 2).blk t).view.read (Elt F) (G (V m c main_v0) (V m c main_arg1)) := by
  rw [flushed2]
  exact funext fun j => out_eq m c t j

def yix (c n : ℕ) : S1x768x1024.Idx := fun | 0 => Fin.ofNat 1 0 | 1 => Fin.ofNat 768 c | 2 => Fin.ofNat 1024 n

theorem emb_yix (t : Fin cfg0.N) (i : S32x768x1024.Idx) (h : t.val = (i 0).val) :
    ((cfg0.win 2).blk t).view.emb (yix (i 1).val (i 2).val) = i := by
  rw [emb2, h]
  show xix (i 0).val ((i 1).val % 768) ((i 2).val % 1024) = i
  rw [Nat.mod_eq_of_lt (show (i 1).val < 768 from (i 1).isLt), Nat.mod_eq_of_lt (show (i 2).val < 1024 from (i 2).isLt)]
  exact (xix_self i).symm

theorem covered (i : S32x768x1024.Idx) :
    ∃ t : Fin cfg0.N, (cfg0.win 2).flush t = true ∧ i ∈ ((cfg0.win 2).blk t).view.set := by
  have h0 : (i 0).val < 32 := (i 0).isLt
  obtain ⟨t, ht⟩ : ∃ t : Fin cfg0.N, t.val = (i 0).val := ⟨⟨(i 0).val, h0.trans_eq N_eq.symm⟩, rfl⟩
  refine ⟨t, flush0_2 t, ?_⟩
  have h := ((cfg0.win 2).blk t).view.emb_mem_set (yix (i 1).val (i 2).val)
  rwa [emb_yix t i ht] at h

theorem final (c : Dev nD) : (dats m 0 c).arrAt 2 cfg0.N
    = G (shapeCast S32x768x1024 (m ((c : Thread nD τ).loc main_arg0)) shapeCasts_S32x768x32x32_S32x768x1024)
        (m ((c : Thread nD τ).loc main_arg1)) :=
  ((dats m 0 c).arrAt_eq_of_cover 2 (G (V m c main_v0) (V m c main_arg1)) (fun t _ => flushed_eq m c t) covered).trans
    (by rw [V_main_v0, V_main_arg1])

/-! ## The reference's value -/

section Reference

open Cert.MaskReferenceIdeal.Gen
open Cert.MaskReferenceIdeal (S32x1024x768 S32x32x32x768 S32x1024 S32x1024x1)

variable (a : Vec F S32x768x32x32 .f32) (t : Vec F S32x1x1024 .f32)

def cix (b n c : ℕ) : S32x1024x768.Idx := fun | 0 => Fin.ofNat 32 b | 1 => Fin.ofNat 1024 n | 2 => Fin.ofNat 768 c
def bix4 (b c p q : ℕ) : S32x32x32x768.Idx := fun | 0 => Fin.ofNat 32 b | 1 => Fin.ofNat 32 p | 2 => Fin.ofNat 32 q | 3 => Fin.ofNat 768 c
def lix (b n : ℕ) : S32x1024x1.Idx := fun | 0 => Fin.ofNat 32 b | 1 => Fin.ofNat 1024 n | 2 => Fin.ofNat 1 0
def mix (b n : ℕ) : S32x1024.Idx := fun | 0 => Fin.ofNat 32 b | 1 => Fin.ofNat 1024 n

/-- The columns as the reference lays them out, each column's threshold beside every entry of it, and the result. -/
abbrev xT : Vec F S32x1024x768 .f32 :=
  shapeCast _ (transpose S32x32x32x768 [0, 2, 3, 1] a transposes_S32x768x32x32_S32x32x32x768_0_2_3_1) shapeCasts_S32x32x32x768_S32x1024x768
abbrev tT : Vec F S32x1024x768 .f32 :=
  broadcastInDim S32x1024x768 ![0, 1, 2] bcast_S32x1024x1_S32x1024x768_0_1_2 (broadcastInDim S32x1024x1 ![0, 1] bcast_S32x1024_S32x1024x1_0_1
    (shapeCast _ t shapeCasts_S32x1x1024_S32x1024))
abbrev zero : Vec F S32x1024x768 .f32 :=
  broadcastInDim S32x1024x768 ![] bcast_S_S32x1024x768 (constant Cert.MaskReferenceIdeal.S_ .f32 0x00000000#32)
abbrev value : Vec F Cert.MaskReferenceIdeal.S32x768x1024 .f32 :=
  shapeCast _ (transpose Cert.MaskReferenceIdeal.S32x768x32x32 [0, 3, 1, 2] (shapeCast _ (maximumf (select (cmpf .oge (xT a) (tT t)) (xT a) zero) zero)
    shapeCasts_S32x1024x768_S32x32x32x768) transposes_S32x32x32x768_S32x768x32x32_0_3_1_2) Cert.MaskReferenceIdeal.Gen.shapeCasts_S32x768x32x32_S32x768x1024

theorem xT_eq (b n c : ℕ) : xT a (cix b n c) = a (aix b c (n % 1024 / 32) (n % 32)) := by
  refine (shapeCast_apply _ _ _ (bix4 b c (n % 1024 / 32) (n % 32)) ?_).trans ?_
  · rw [Shape.rowMajor_val_four, Shape.rowMajor_val_three]
    show ((b % 32 * 32 + n % 1024 / 32 % 32) * 32 + n % 32 % 32) * 768 + c % 768 = (b % 32 * 1024 + n % 1024) * 768 + c % 768
    omega
  refine transpose_apply _ _ _ _ (aix b c (n % 1024 / 32) (n % 32)) fun x => ?_
  match x with
  | 0 => rfl
  | 1 => rfl
  | 2 => rfl
  | 3 => rfl

theorem tT_eq (b n c : ℕ) : tT t (cix b n c) = t (tix b n) := by
  refine (broadcastInDim_apply _ _ _ _ (lix b n) fun x => ?_).trans ?_
  · match x with
    | 0 => rfl
    | 1 => rfl
    | 2 => rfl
  refine (broadcastInDim_apply _ _ _ _ (mix b n) fun x => ?_).trans ?_
  · match x with
    | 0 => rfl
    | 1 => rfl
  refine shapeCast_apply _ _ _ (tix b n) ?_
  rw [Shape.rowMajor_val_three, Shape.rowMajor_val_two]
  show (b % 32 * 1 + 0 % 1) * 1024 + n % 1024 = b % 32 * 1024 + n % 1024
  omega

theorem value_eq (i : S32x768x1024.Idx) :
    value a t i = G (shapeCast S32x768x1024 a Cert.MaskIdeal.Gen.shapeCasts_S32x768x32x32_S32x768x1024) t i := by
  have h0 : (i 0).val < 32 := (i 0).isLt
  have h1 : (i 1).val < 768 := (i 1).isLt
  have h2 : (i 2).val < 1024 := (i 2).isLt
  have e : shapeCast S32x768x1024 a Cert.MaskIdeal.Gen.shapeCasts_S32x768x32x32_S32x768x1024 i = xT a (cix (i 0).val (i 2).val (i 1).val) := by
    rw [xT_eq]
    refine shapeCast_apply _ _ _ _ ?_
    rw [Shape.rowMajor_val_four, Shape.rowMajor_val_three]
    show (((i 0).val % 32 * 768 + (i 1).val % 768) * 32 + (i 2).val % 1024 / 32 % 32) * 32 + (i 2).val % 32 % 32
      = ((i 0).val * 768 + (i 1).val) * 1024 + (i 2).val
    omega
  refine (shapeCast_apply _ _ _ (aix (i 0).val (i 1).val ((i 2).val / 32) ((i 2).val % 32)) ?_).trans ?_
  · rw [Shape.rowMajor_val_four, Shape.rowMajor_val_three]
    show (((i 0).val % 32 * 768 + (i 1).val % 768) * 32 + (i 2).val / 32 % 32) * 32 + (i 2).val % 32 % 32
      = ((i 0).val * 768 + (i 1).val) * 1024 + (i 2).val
    omega
  refine (transpose_apply _ _ _ _ (bix4 (i 0).val (i 1).val ((i 2).val / 32) ((i 2).val % 32)) fun x => ?_).trans ?_
  · match x with
    | 0 => rfl
    | 1 => rfl
    | 2 => rfl
    | 3 => rfl
  refine (shapeCast_apply _ _ _ (cix (i 0).val (i 2).val (i 1).val) ?_).trans ?_
  · rw [Shape.rowMajor_val_four, Shape.rowMajor_val_three]
    show ((i 0).val % 32 * 1024 + (i 2).val % 1024) * 768 + (i 1).val % 768
      = (((i 0).val % 32 * 32 + (i 2).val / 32 % 32) * 32 + (i 2).val % 32 % 32) * 768 + (i 1).val % 768
    omega
  show keep (xT a (cix (i 0).val (i 2).val (i 1).val)) (tT t (cix (i 0).val (i 2).val (i 1).val)) = keep _ _
  rw [e, tT_eq]

end Reference

/-! ## The two runs -/

/-- The kernel's run, its result the reference's value of the arguments. -/
theorem run : θ_run defs (onTc (τ := τ) (main (F := F))) ⟨m, fun _ => 0, ρ⟩ fun r => ∀ c : Dev nD,
      r.2.mem ((c : Thread nD τ).loc main_v1) = value (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1.trans (final m c)).trans (funext fun i => (value_eq _ _ i).symm), (h c).2⟩) (run_blocks m ρ)

end Cert.Proof.Msk

end
-- ==== Proof.lean ====
/-
  The certificate, of the three calls one by one. Each runs with its arguments unchanged and every counter back at zero,
  and so does its reference. The thresholds of the SparseCore call and of the dense call are their references', bit for
  bit; the masked array is its reference's over the extended reals. The calls' runs with their values are
  Proof/Launch.lean, Proof/DenseVal.lean and Proof/MaskVal.lean; what the thresholds' reference computes is Proof/Ref.lean.
-/
module

public import proofs.«01_k».proof.Defs
public import proofs.«01_k».proof.Proof.Ref
public import proofs.«01_k».proof.Proof.DenseVal
public import proofs.«01_k».proof.Proof.MaskVal
public import proofs.«01_k».proof.Proof.Gen.Dense.Value
public import proofs.«01_k».proof.Proof.Gen.DenseReference.Run
public import proofs.«01_k».proof.Proof.Gen.Mask.Frame
public import proofs.«01_k».proof.Proof.Gen.MaskIdeal.Value
public import proofs.«01_k».proof.Proof.Gen.MaskReferenceIdeal.Run
public import proofs.«01_k».proof.Proof.Gen.Reference.Run
public import proofs.«01_k».proof.Proof.Gen.Kernel
public import proofs.«01_k».proof.Proof.Gen.Kernel.Skeleton
public import proofs.«01_k».proof.Proof.Gen.Reference
public import Idealize.ShloMosaic.Adequacy
public import Idealize.ShloMosaic.Init

@[expose] public section

noncomputable section

namespace Cert.Proof

open Idealize.ShloMosaic Idealize.SL.Sem

theorem frame_k : Cert.quiescent_Kernel (hKernel := Cert.Kernel.Gen.facts) := fun m ρ _ =>
  (θ_run Cert.Kernel.defs _ _).mono (fun _ h => ⟨fun c => (h.1 c).1, h.2⟩) (Thr.run_main (F := Bits) m ρ)

theorem frame_r : Cert.quiescent_Reference (hReference := Cert.Reference.Gen.facts) := fun m ρ _ =>
  (θ_run Cert.Reference.defs _ _).mono (fun r h => ⟨fun c => (h c).2, sem_eq_zero_of_no_sems (by decide) r.2⟩)
    (Cert.Reference.Value.run (F := Bits) m ρ)

theorem bitexact : Cert.bitexact_Kernel_Reference (hKernel := Cert.Kernel.Gen.facts) (hReference := Cert.Reference.Gen.facts) := by
  intro m ρ m' ρ' _ hagree
  refine ⟨fun c => Thr.value (m ((c.tc : Thread Cert.Kernel.nD Cert.Kernel.τ).loc Cert.Kernel.main_arg0)), ?_, ?_⟩
  · exact (θ_run Cert.Kernel.defs _ _).mono (fun _ h c => ⟨(h.1 c).2.trans (funext fun i => Thr.G_eq _ i), (h.1 c).1⟩) (Thr.run_main (F := Bits) m ρ)
  · refine (θ_run Cert.Reference.defs _ _).mono (fun _ h c => ⟨(h c).1.trans ?_, (h c).2⟩) (Cert.Reference.Value.run (F := Bits) m' ρ')
    exact congrArg Thr.value (hagree c)

theorem frame_t : Cert.quiescent_Dense (hDense := Cert.Dense.Gen.facts) := fun m ρ _ => Cert.Dense.Gen.frame m ρ

theorem frame_tr : Cert.quiescent_DenseReference (hDenseReference := Cert.DenseReference.Gen.facts) := fun m ρ _ =>
  (θ_run Cert.DenseReference.defs _ _).mono (fun r h => ⟨fun c => (h c).2, sem_eq_zero_of_no_sems (by decide) r.2⟩)
    (Cert.DenseReference.Value.run (F := Bits) m ρ)

theorem bitexact_t : Cert.bitexact_Dense_DenseReference (hDense := Cert.Dense.Gen.facts) (hDenseReference := Cert.DenseReference.Gen.facts) := by
  intro m ρ m' ρ' _ hagree
  refine ⟨fun c => Dns.value (m ((c.tc : Thread Cert.Dense.nD Cert.Dense.τ).loc Cert.Dense.main_arg0)), Dns.run m ρ, ?_⟩
  refine (θ_run Cert.DenseReference.defs _ _).mono (fun _ h c => ⟨(h c).1.trans ?_, (h c).2⟩) (Cert.DenseReference.Value.run (F := Bits) m' ρ')
  exact congrArg Dns.value (hagree c)

theorem frame_m : Cert.quiescent_Mask (hMask := Cert.Mask.Gen.facts) := fun m ρ _ => Cert.Mask.Gen.frame m ρ

theorem frame_mi : Cert.quiescent_MaskIdeal (hMaskIdeal := Cert.MaskIdeal.Gen.facts) := fun m ρ _ => Cert.MaskIdeal.Gen.frame m ρ

theorem frame_mri : Cert.quiescent_MaskReferenceIdeal (hMaskReferenceIdeal := Cert.MaskReferenceIdeal.Gen.facts) := fun m ρ _ =>
  (θ_run Cert.MaskReferenceIdeal.defs _ _).mono (fun r h => ⟨fun c => (h c).2, sem_eq_zero_of_no_sems (by decide) r.2⟩)
    (Cert.MaskReferenceIdeal.Value.run (F := Ideal) m ρ)

theorem algebraic : Cert.algebraic_MaskIdeal_MaskReferenceIdeal (hMaskIdeal := Cert.MaskIdeal.Gen.facts) (hMaskReferenceIdeal := Cert.MaskReferenceIdeal.Gen.facts) := by
  intro m ρ m' ρ' _ hagree
  refine ⟨fun c => Msk.value (m ((c.tc : Thread Cert.MaskIdeal.nD Cert.MaskIdeal.τ).loc Cert.MaskIdeal.main_arg0))
    (m ((c.tc : Thread Cert.MaskIdeal.nD Cert.MaskIdeal.τ).loc Cert.MaskIdeal.main_arg1)), Msk.run m ρ, ?_⟩
  refine (θ_run Cert.MaskReferenceIdeal.defs _ _).mono (fun _ h c => ⟨(h c).1.trans ?_, (h c).2⟩) (Cert.MaskReferenceIdeal.Value.run (F := Ideal) m' ρ')
  exact congrArg₂ Msk.value (hagree c).1 (hagree c).2

theorem claim : Cert.Claim :=
  ⟨Cert.Kernel.Gen.facts, Cert.Reference.Gen.facts, Cert.Dense.Gen.facts, Cert.DenseReference.Gen.facts, Cert.Mask.Gen.facts,
    Cert.MaskIdeal.Gen.facts, Cert.MaskReferenceIdeal.Gen.facts, frame_k, frame_r, frame_t, frame_tr, frame_m, frame_mi, frame_mri,
    bitexact, bitexact_t, trivial, algebraic⟩

end Cert.Proof

end
